-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x64x1024 : Shape := ⟨3, ![512, 64, 1024]⟩
abbrev S64x1024 : Shape := ⟨2, ![64, 1024]⟩
abbrev S3x1024x512 : Shape := ⟨3, ![3, 1024, 512]⟩
abbrev S3x512x512 : Shape := ⟨3, ![3, 512, 512]⟩
abbrev S3x512 : Shape := ⟨2, ![3, 512]⟩
abbrev S1x3x1024x512 : Shape := ⟨4, ![1, 3, 1024, 512]⟩
abbrev S2x3x1024x512 : Shape := ⟨4, ![2, 3, 1024, 512]⟩
abbrev S3x1x512 : Shape := ⟨3, ![3, 1, 512]⟩
abbrev S3x2x512 : Shape := ⟨3, ![3, 2, 512]⟩
abbrev S1x3072 : Shape := ⟨2, ![1, 3072]⟩
abbrev S1x512x512 : Shape := ⟨3, ![1, 512, 512]⟩
abbrev S512x512 : Shape := ⟨2, ![512, 512]⟩
abbrev S512x1024 : Shape := ⟨2, ![512, 1024]⟩
abbrev S1x512x1024 : Shape := ⟨3, ![1, 512, 1024]⟩
abbrev S2x512x1024 : Shape := ⟨3, ![2, 512, 1024]⟩
abbrev S2x512x512 : Shape := ⟨3, ![2, 512, 512]⟩
abbrev S3x512x64x1024 : Shape := ⟨4, ![3, 512, 64, 1024]⟩
abbrev S16x64x1024 : Shape := ⟨3, ![16, 64, 1024]⟩
abbrev S3x16x64x1024 : Shape := ⟨4, ![3, 16, 64, 1024]⟩
abbrev S1024x1024 : Shape := ⟨2, ![1024, 1024]⟩
abbrev S1x1x1024x512 : Shape := ⟨4, ![1, 1, 1024, 512]⟩
abbrev S1024x512 : Shape := ⟨2, ![1024, 512]⟩
abbrev S1x512 : Shape := ⟨2, ![1, 512]⟩
abbrev S512 : Shape := ⟨1, ![512]⟩
abbrev S16x64x512 : Shape := ⟨3, ![16, 64, 512]⟩
abbrev S1x16x64x512 : Shape := ⟨4, ![1, 16, 64, 512]⟩
abbrev S3x16x64x512 : Shape := ⟨4, ![3, 16, 64, 512]⟩
abbrev S2x64x512 : Shape := ⟨3, ![2, 64, 512]⟩
abbrev S2x4x16x64x512 : Shape := ⟨5, ![2, 4, 16, 64, 512]⟩
abbrev S2x4 : Shape := ⟨2, ![2, 4]⟩
abbrev S64x512 : Shape := ⟨2, ![64, 512]⟩
abbrev S1x64x512 : Shape := ⟨3, ![1, 64, 512]⟩
abbrev S1x1 : Shape := ⟨2, ![1, 1]⟩
abbrev S_ : Shape := ⟨0, ![]⟩
abbrev S1x1x16x64x512 : Shape := ⟨5, ![1, 1, 16, 64, 512]⟩
abbrev S1x1x64x512 : Shape := ⟨4, ![1, 1, 64, 512]⟩
abbrev S1x1x1x64x512 : Shape := ⟨5, ![1, 1, 1, 64, 512]⟩

abbrev nBuf : Space → Nat
  | .hbm => 41
  | .vmem => 16
  | .smem => 0
  | _ => 0

abbrev bufTy : (tb : Table) → Fin (tcTables nBuf tb) → BufTy
  | .hbm, ⟨0, _⟩ => ⟨S512x64x1024, .f32⟩
  | .hbm, ⟨1, _⟩ => ⟨S64x1024, .f32⟩
  | .hbm, ⟨2, _⟩ => ⟨S3x1024x512, .f32⟩
  | .hbm, ⟨3, _⟩ => ⟨S3x512x512, .f32⟩
  | .hbm, ⟨4, _⟩ => ⟨S3x512, .f32⟩
  | .hbm, ⟨5, _⟩ => ⟨S3x1024x512, .f32⟩
  | .hbm, ⟨6, _⟩ => ⟨S3x512x512, .f32⟩
  | .hbm, ⟨7, _⟩ => ⟨S3x512, .f32⟩
  | .hbm, ⟨8, _⟩ => ⟨S1x3x1024x512, .f32⟩
  | .hbm, ⟨9, _⟩ => ⟨S1x3x1024x512, .f32⟩
  | .hbm, ⟨10, _⟩ => ⟨S2x3x1024x512, .f32⟩
  | .hbm, ⟨11, _⟩ => ⟨S2x3x1024x512, .bf16⟩
  | .hbm, ⟨12, _⟩ => ⟨S3x1x512, .f32⟩
  | .hbm, ⟨13, _⟩ => ⟨S3x1x512, .f32⟩
  | .hbm, ⟨14, _⟩ => ⟨S3x2x512, .f32⟩
  | .hbm, ⟨15, _⟩ => ⟨S1x3072, .f32⟩
  | .hbm, ⟨16, _⟩ => ⟨S1x512x512, .f32⟩
  | .hbm, ⟨17, _⟩ => ⟨S512x512, .f32⟩
  | .hbm, ⟨18, _⟩ => ⟨S1x512x512, .f32⟩
  | .hbm, ⟨19, _⟩ => ⟨S512x512, .f32⟩
  | .hbm, ⟨20, _⟩ => ⟨S512x1024, .f32⟩
  | .hbm, ⟨21, _⟩ => ⟨S1x512x512, .f32⟩
  | .hbm, ⟨22, _⟩ => ⟨S512x512, .f32⟩
  | .hbm, ⟨23, _⟩ => ⟨S1x512x512, .f32⟩
  | .hbm, ⟨24, _⟩ => ⟨S512x512, .f32⟩
  | .hbm, ⟨25, _⟩ => ⟨S512x1024, .f32⟩
  | .hbm, ⟨26, _⟩ => ⟨S1x512x1024, .f32⟩
  | .hbm, ⟨27, _⟩ => ⟨S1x512x1024, .f32⟩
  | .hbm, ⟨28, _⟩ => ⟨S2x512x1024, .f32⟩
  | .hbm, ⟨29, _⟩ => ⟨S2x512x1024, .bf16⟩
  | .hbm, ⟨30, _⟩ => ⟨S1x512x512, .f32⟩
  | .hbm, ⟨31, _⟩ => ⟨S512x512, .f32⟩
  | .hbm, ⟨32, _⟩ => ⟨S1x512x512, .f32⟩
  | .hbm, ⟨33, _⟩ => ⟨S512x512, .f32⟩
  | .hbm, ⟨34, _⟩ => ⟨S1x512x512, .f32⟩
  | .hbm, ⟨35, _⟩ => ⟨S1x512x512, .f32⟩
  | .hbm, ⟨36, _⟩ => ⟨S2x512x512, .f32⟩
  | .hbm, ⟨37, _⟩ => ⟨S2x512x512, .bf16⟩
  | .hbm, ⟨38, _⟩ => ⟨S3x512x64x1024, .bf16⟩
  | .hbm, ⟨39, _⟩ => ⟨S512x64x1024, .f32⟩
  | .hbm, ⟨40, _⟩ => ⟨S64x1024, .f32⟩
  | .local _ .vmem, ⟨0, _⟩ => ⟨S16x64x1024, .f32⟩
  | .local _ .vmem, ⟨1, _⟩ => ⟨S16x64x1024, .f32⟩
  | .local _ .vmem, ⟨2, _⟩ => ⟨S2x3x1024x512, .bf16⟩
  | .local _ .vmem, ⟨3, _⟩ => ⟨S1x3072, .f32⟩
  | .local _ .vmem, ⟨4, _⟩ => ⟨S3x16x64x1024, .bf16⟩
  | .local _ .vmem, ⟨5, _⟩ => ⟨S3x16x64x1024, .bf16⟩
  | .local _ .vmem, ⟨6, _⟩ => ⟨S3x16x64x512, .bf16⟩
  | .local _ .vmem, ⟨7, _⟩ => ⟨S3x16x64x512, .bf16⟩
  | .local _ .vmem, ⟨8, _⟩ => ⟨S3x16x64x512, .bf16⟩
  | .local _ .vmem, ⟨9, _⟩ => ⟨S3x16x64x512, .bf16⟩
  | .local _ .vmem, ⟨10, _⟩ => ⟨S2x512x1024, .bf16⟩
  | .local _ .vmem, ⟨11, _⟩ => ⟨S2x512x512, .bf16⟩
  | .local _ .vmem, ⟨12, _⟩ => ⟨S64x1024, .f32⟩
  | .local _ .vmem, ⟨13, _⟩ => ⟨S64x1024, .f32⟩
  | .local _ .vmem, ⟨14, _⟩ => ⟨S2x64x512, .f32⟩
  | .local _ .vmem, ⟨15, _⟩ => ⟨S2x4x16x64x512, .f32⟩
  | _, _ => ⟨S512x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31_0 : Ref sig .tc := ⟨.hbm, 39, rfl⟩
abbrev main_v31_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x3x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x16x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c4_i32_1 : BitVec 32 := 4#32
  let v4 : BitVec 1 := Scalar.cmpi .sge arg0 c4_i32_1
  let v5 : BitVec 32 := Scalar.extui v4
  let c0_i32_2 : BitVec 32 := 0#32
  let v6 : BitVec 1 := Scalar.cmpi .ne v5 c0_i32_2
  v6

def k1_off1 (i : grid1.Coords) : Fin 2 → Nat :=
  let c0_i32_814 : BitVec 32 := 0#32
  let arg0 : BitVec 32 := BitVec.ofNat 32 (i 0).val
  let c4_i32 : BitVec 32 := 4#32
  let v0 : BitVec 32 := Scalar.remsi arg0 c4_i32
  ![0, v0.toNat]
def k1_off2 (i : grid1.Coords) : Fin 5 → Nat :=
  let c0_i32_813 : BitVec 32 := 0#32
  let arg0 : BitVec 32 := BitVec.ofNat 32 (i 0).val
  let c4_i32 : BitVec 32 := 4#32
  let v0 : BitVec 32 := Scalar.remsi arg0 c4_i32
  let c0_i32_815 : BitVec 32 := 0#32
  let c0_i32_816 : BitVec 32 := 0#32
  let c0_i32_817 : BitVec 32 := 0#32
  ![0, v0.toNat, 0, 0, 0]
def k1_off3 (i : grid1.Coords) : Fin 2 → Nat :=
  let c1_i32_823 : BitVec 32 := 1#32
  let arg0 : BitVec 32 := BitVec.ofNat 32 (i 0).val
  let c4_i32 : BitVec 32 := 4#32
  let v0 : BitVec 32 := Scalar.remsi arg0 c4_i32
  ![1, v0.toNat]
def k1_off4 (i : grid1.Coords) : Fin 5 → Nat :=
  let c1_i32_822 : BitVec 32 := 1#32
  let arg0 : BitVec 32 := BitVec.ofNat 32 (i 0).val
  let c4_i32 : BitVec 32 := 4#32
  let v0 : BitVec 32 := Scalar.remsi arg0 c4_i32
  let c0_i32_824 : BitVec 32 := 0#32
  let c0_i32_825 : BitVec 32 := 0#32
  let c0_i32_826 : BitVec 32 := 0#32
  ![1, v0.toNat, 0, 0, 0]
def k1_off5 (i : grid1.Coords) : Fin 5 → Nat :=
  let c0_46 : Index := 0#32
  let arg0 : BitVec 32 := BitVec.ofNat 32 (i 0).val
  let c4_i32 : BitVec 32 := 4#32
  let v0 : BitVec 32 := Scalar.remsi arg0 c4_i32
  let v73 : Index := Scalar.indexCast v0
  let c0_47 : Index := 0#32
  let c0_48 : Index := 0#32
  let c0_49 : Index := 0#32
  ![0, v73.toNat, 0, 0, 0]
def k1_off6 (i : grid1.Coords) : Fin 5 → Nat :=
  let c1_50 : Index := 1#32
  let arg0 : BitVec 32 := BitVec.ofNat 32 (i 0).val
  let c4_i32 : BitVec 32 := 4#32
  let v0 : BitVec 32 := Scalar.remsi arg0 c4_i32
  let v77 : Index := Scalar.indexCast v0
  let c15_51 : Index := 15#32
  let c0_52 : Index := 0#32
  let c0_53 : Index := 0#32
  ![1, v77.toNat, 15, 0, 0]
def k1_off7 (i : grid1.Coords) : Fin 5 → Nat :=
  let c0_95 : Index := 0#32
  let arg0 : BitVec 32 := BitVec.ofNat 32 (i 0).val
  let c4_i32 : BitVec 32 := 4#32
  let v0 : BitVec 32 := Scalar.remsi arg0 c4_i32
  let v143 : Index := Scalar.indexCast v0
  let c1_96 : Index := 1#32
  let c0_97 : Index := 0#32
  let c0_98 : Index := 0#32
  ![0, v143.toNat, 1, 0, 0]
def k1_off8 (i : grid1.Coords) : Fin 5 → Nat :=
  let c1_99 : Index := 1#32
  let arg0 : BitVec 32 := BitVec.ofNat 32 (i 0).val
  let c4_i32 : BitVec 32 := 4#32
  let v0 : BitVec 32 := Scalar.remsi arg0 c4_i32
  let v147 : Index := Scalar.indexCast v0
  let c14_100 : Index := 14#32
  let c0_101 : Index := 0#32
  let c0_102 : Index := 0#32
  ![1, v147.toNat, 14, 0, 0]
def k1_off9 (i : grid1.Coords) : Fin 5 → Nat :=
  let c0_144 : Index := 0#32
  let arg0 : BitVec 32 := BitVec.ofNat 32 (i 0).val
  let c4_i32 : BitVec 32 := 4#32
  let v0 : BitVec 32 := Scalar.remsi arg0 c4_i32
  let v213 : Index := Scalar.indexCast v0
  let c2_145 : Index := 2#32
  let c0_146 : Index := 0#32
  let c0_147 : Index := 0#32
  ![0, v213.toNat, 2, 0, 0]
def k1_off10 (i : grid1.Coords) : Fin 5 → Nat :=
  let c1_148 : Index := 1#32
  let arg0 : BitVec 32 := BitVec.ofNat 32 (i 0).val
  let c4_i32 : BitVec 32 := 4#32
  let v0 : BitVec 32 := Scalar.remsi arg0 c4_i32
  let v217 : Index := Scalar.indexCast v0
  let c13_149 : Index := 13#32
  let c0_150 : Index := 0#32
  let c0_151 : Index := 0#32
  ![1, v217.toNat, 13, 0, 0]
def k1_off11 (i : grid1.Coords) : Fin 5 → Nat :=
  let c0_192 : Index := 0#32
  let arg0 : BitVec 32 := BitVec.ofNat 32 (i 0).val
  let c4_i32 : BitVec 32 := 4#32
  let v0 : BitVec 32 := Scalar.remsi arg0 c4_i32
  let v283 : Index := Scalar.indexCast v0
  let c3_193 : Index := 3#32
  let c0_194 : Index := 0#32
  let c0_195 : Index := 0#32
  ![0, v283.toNat, 3, 0, 0]
def k1_off12 (i : grid1.Coords) : Fin 5 → Nat :=
  let c1_196 : Index := 1#32
  let arg0 : BitVec 32 := BitVec.ofNat 32 (i 0).val
  let c4_i32 : BitVec 32 := 4#32
  let v0 : BitVec 32 := Scalar.remsi arg0 c4_i32
  let v287 : Index := Scalar.indexCast v0
  let c12_197 : Index := 12#32
  let c0_198 : Index := 0#32
  let c0_199 : Index := 0#32
  ![1, v287.toNat, 12, 0, 0]
def k1_off13 (i : grid1.Coords) : Fin 5 → Nat :=
  let c0_240 : Index := 0#32
  let arg0 : BitVec 32 := BitVec.ofNat 32 (i 0).val
  let c4_i32 : BitVec 32 := 4#32
  let v0 : BitVec 32 := Scalar.remsi arg0 c4_i32
  let v353 : Index := Scalar.indexCast v0
  let c4_241 : Index := 4#32
  let c0_242 : Index := 0#32
  let c0_243 : Index := 0#32
  ![0, v353.toNat, 4, 0, 0]
def k1_off14 (i : grid1.Coords) : Fin 5 → Nat :=
  let c1_244 : Index := 1#32
  let arg0 : BitVec 32 := BitVec.ofNat 32 (i 0).val
  let c4_i32 : BitVec 32 := 4#32
  let v0 : BitVec 32 := Scalar.remsi arg0 c4_i32
  let v357 : Index := Scalar.indexCast v0
  let c11_245 : Index := 11#32
  let c0_246 : Index := 0#32
  let c0_247 : Index := 0#32
  ![1, v357.toNat, 11, 0, 0]
def k1_off15 (i : grid1.Coords) : Fin 5 → Nat :=
  let c0_288 : Index := 0#32
  let arg0 : BitVec 32 := BitVec.ofNat 32 (i 0).val
  let c4_i32 : BitVec 32 := 4#32
  let v0 : BitVec 32 := Scalar.remsi arg0 c4_i32
  let v423 : Index := Scalar.indexCast v0
  let c5_289 : Index := 5#32
  let c0_290 : Index := 0#32
  let c0_291 : Index := 0#32
  ![0, v423.toNat, 5, 0, 0]
def k1_off16 (i : grid1.Coords) : Fin 5 → Nat :=
  let c1_292 : Index := 1#32
  let arg0 : BitVec 32 := BitVec.ofNat 32 (i 0).val
  let c4_i32 : BitVec 32 := 4#32
  let v0 : BitVec 32 := Scalar.remsi arg0 c4_i32
  let v427 : Index := Scalar.indexCast v0
  let c10_293 : Index := 10#32
  let c0_294 : Index := 0#32
  let c0_295 : Index := 0#32
  ![1, v427.toNat, 10, 0, 0]
def k1_off17 (i : grid1.Coords) : Fin 5 → Nat :=
  let c0_336 : Index := 0#32
  let arg0 : BitVec 32 := BitVec.ofNat 32 (i 0).val
  let c4_i32 : BitVec 32 := 4#32
  let v0 : BitVec 32 := Scalar.remsi arg0 c4_i32
  let v493 : Index := Scalar.indexCast v0
  let c6_337 : Index := 6#32
  let c0_338 : Index := 0#32
  let c0_339 : Index := 0#32
  ![0, v493.toNat, 6, 0, 0]
def k1_off18 (i : grid1.Coords) : Fin 5 → Nat :=
  let c1_340 : Index := 1#32
  let arg0 : BitVec 32 := BitVec.ofNat 32 (i 0).val
  let c4_i32 : BitVec 32 := 4#32
  let v0 : BitVec 32 := Scalar.remsi arg0 c4_i32
  let v497 : Index := Scalar.indexCast v0
  let c9_341 : Index := 9#32
  let c0_342 : Index := 0#32
  let c0_343 : Index := 0#32
  ![1, v497.toNat, 9, 0, 0]
def k1_off19 (i : grid1.Coords) : Fin 5 → Nat :=
  let c0_384 : Index := 0#32
  let arg0 : BitVec 32 := BitVec.ofNat 32 (i 0).val
  let c4_i32 : BitVec 32 := 4#32
  let v0 : BitVec 32 := Scalar.remsi arg0 c4_i32
  let v563 : Index := Scalar.indexCast v0
  let c7_385 : Index := 7#32
  let c0_386 : Index := 0#32
  let c0_387 : Index := 0#32
  ![0, v563.toNat, 7, 0, 0]
def k1_off20 (i : grid1.Coords) : Fin 5 → Nat :=
  let c1_388 : Index := 1#32
  let arg0 : BitVec 32 := BitVec.ofNat 32 (i 0).val
  let c4_i32 : BitVec 32 := 4#32
  let v0 : BitVec 32 := Scalar.remsi arg0 c4_i32
  let v567 : Index := Scalar.indexCast v0
  let c8_389 : Index := 8#32
  let c0_390 : Index := 0#32
  let c0_391 : Index := 0#32
  ![1, v567.toNat, 8, 0, 0]
def k1_off21 (i : grid1.Coords) : Fin 5 → Nat :=
  let c0_434 : Index := 0#32
  let arg0 : BitVec 32 := BitVec.ofNat 32 (i 0).val
  let c4_i32 : BitVec 32 := 4#32
  let v0 : BitVec 32 := Scalar.remsi arg0 c4_i32
  let v633 : Index := Scalar.indexCast v0
  let c8_435 : Index := 8#32
  let c0_436 : Index := 0#32
  let c0_437 : Index := 0#32
  ![0, v633.toNat, 8, 0, 0]
def k1_off22 (i : grid1.Coords) : Fin 5 → Nat :=
  let c1_438 : Index := 1#32
  let arg0 : BitVec 32 := BitVec.ofNat 32 (i 0).val
  let c4_i32 : BitVec 32 := 4#32
  let v0 : BitVec 32 := Scalar.remsi arg0 c4_i32
  let v637 : Index := Scalar.indexCast v0
  let c7_439 : Index := 7#32
  let c0_440 : Index := 0#32
  let c0_441 : Index := 0#32
  ![1, v637.toNat, 7, 0, 0]
def k1_off23 (i : grid1.Coords) : Fin 5 → Nat :=
  let c0_484 : Index := 0#32
  let arg0 : BitVec 32 := BitVec.ofNat 32 (i 0).val
  let c4_i32 : BitVec 32 := 4#32
  let v0 : BitVec 32 := Scalar.remsi arg0 c4_i32
  let v703 : Index := Scalar.indexCast v0
  let c9_485 : Index := 9#32
  let c0_486 : Index := 0#32
  let c0_487 : Index := 0#32
  ![0, v703.toNat, 9, 0, 0]
def k1_off24 (i : grid1.Coords) : Fin 5 → Nat :=
  let c1_488 : Index := 1#32
  let arg0 : BitVec 32 := BitVec.ofNat 32 (i 0).val
  let c4_i32 : BitVec 32 := 4#32
  let v0 : BitVec 32 := Scalar.remsi arg0 c4_i32
  let v707 : Index := Scalar.indexCast v0
  let c6_489 : Index := 6#32
  let c0_490 : Index := 0#32
  let c0_491 : Index := 0#32
  ![1, v707.toNat, 6, 0, 0]
def k1_off25 (i : grid1.Coords) : Fin 5 → Nat :=
  let c0_534 : Index := 0#32
  let arg0 : BitVec 32 := BitVec.ofNat 32 (i 0).val
  let c4_i32 : BitVec 32 := 4#32
  let v0 : BitVec 32 := Scalar.remsi arg0 c4_i32
  let v773 : Index := Scalar.indexCast v0
  let c10_535 : Index := 10#32
  let c0_536 : Index := 0#32
  let c0_537 : Index := 0#32
  ![0, v773.toNat, 10, 0, 0]
def k1_off26 (i : grid1.Coords) : Fin 5 → Nat :=
  let c1_538 : Index := 1#32
  let arg0 : BitVec 32 := BitVec.ofNat 32 (i 0).val
  let c4_i32 : BitVec 32 := 4#32
  let v0 : BitVec 32 := Scalar.remsi arg0 c4_i32
  let v777 : Index := Scalar.indexCast v0
  let c5_539 : Index := 5#32
  let c0_540 : Index := 0#32
  let c0_541 : Index := 0#32
  ![1, v777.toNat, 5, 0, 0]
def k1_off27 (i : grid1.Coords) : Fin 5 → Nat :=
  let c0_584 : Index := 0#32
  let arg0 : BitVec 32 := BitVec.ofNat 32 (i 0).val
  let c4_i32 : BitVec 32 := 4#32
  let v0 : BitVec 32 := Scalar.remsi arg0 c4_i32
  let v843 : Index := Scalar.indexCast v0
  let c11_585 : Index := 11#32
  let c0_586 : Index := 0#32
  let c0_587 : Index := 0#32
  ![0, v843.toNat, 11, 0, 0]
def k1_off28 (i : grid1.Coords) : Fin 5 → Nat :=
  let c1_588 : Index := 1#32
  let arg0 : BitVec 32 := BitVec.ofNat 32 (i 0).val
  let c4_i32 : BitVec 32 := 4#32
  let v0 : BitVec 32 := Scalar.remsi arg0 c4_i32
  let v847 : Index := Scalar.indexCast v0
  let c4_589 : Index := 4#32
  let c0_590 : Index := 0#32
  let c0_591 : Index := 0#32
  ![1, v847.toNat, 4, 0, 0]
def k1_off29 (i : grid1.Coords) : Fin 5 → Nat :=
  let c0_634 : Index := 0#32
  let arg0 : BitVec 32 := BitVec.ofNat 32 (i 0).val
  let c4_i32 : BitVec 32 := 4#32
  let v0 : BitVec 32 := Scalar.remsi arg0 c4_i32
  let v913 : Index := Scalar.indexCast v0
  let c12_635 : Index := 12#32
  let c0_636 : Index := 0#32
  let c0_637 : Index := 0#32
  ![0, v913.toNat, 12, 0, 0]
def k1_off30 (i : grid1.Coords) : Fin 5 → Nat :=
  let c1_638 : Index := 1#32
  let arg0 : BitVec 32 := BitVec.ofNat 32 (i 0).val
  let c4_i32 : BitVec 32 := 4#32
  let v0 : BitVec 32 := Scalar.remsi arg0 c4_i32
  let v917 : Index := Scalar.indexCast v0
  let c3_639 : Index := 3#32
  let c0_640 : Index := 0#32
  let c0_641 : Index := 0#32
  ![1, v917.toNat, 3, 0, 0]
def k1_off31 (i : grid1.Coords) : Fin 5 → Nat :=
  let c0_684 : Index := 0#32
  let arg0 : BitVec 32 := BitVec.ofNat 32 (i 0).val
  let c4_i32 : BitVec 32 := 4#32
  let v0 : BitVec 32 := Scalar.remsi arg0 c4_i32
  let v983 : Index := Scalar.indexCast v0
  let c13_685 : Index := 13#32
  let c0_686 : Index := 0#32
  let c0_687 : Index := 0#32
  ![0, v983.toNat, 13, 0, 0]
def k1_off32 (i : grid1.Coords) : Fin 5 → Nat :=
  let c1_688 : Index := 1#32
  let arg0 : BitVec 32 := BitVec.ofNat 32 (i 0).val
  let c4_i32 : BitVec 32 := 4#32
  let v0 : BitVec 32 := Scalar.remsi arg0 c4_i32
  let v987 : Index := Scalar.indexCast v0
  let c2_689 : Index := 2#32
  let c0_690 : Index := 0#32
  let c0_691 : Index := 0#32
  ![1, v987.toNat, 2, 0, 0]
def k1_off33 (i : grid1.Coords) : Fin 5 → Nat :=
  let c0_734 : Index := 0#32
  let arg0 : BitVec 32 := BitVec.ofNat 32 (i 0).val
  let c4_i32 : BitVec 32 := 4#32
  let v0 : BitVec 32 := Scalar.remsi arg0 c4_i32
  let v1053 : Index := Scalar.indexCast v0
  let c14_735 : Index := 14#32
  let c0_736 : Index := 0#32
  let c0_737 : Index := 0#32
  ![0, v1053.toNat, 14, 0, 0]
def k1_off34 (i : grid1.Coords) : Fin 5 → Nat :=
  let c1_738 : Index := 1#32
  let arg0 : BitVec 32 := BitVec.ofNat 32 (i 0).val
  let c4_i32 : BitVec 32 := 4#32
  let v0 : BitVec 32 := Scalar.remsi arg0 c4_i32
  let v1057 : Index := Scalar.indexCast v0
  let c1_739 : Index := 1#32
  let c0_740 : Index := 0#32
  let c0_741 : Index := 0#32
  ![1, v1057.toNat, 1, 0, 0]
def k1_off35 (i : grid1.Coords) : Fin 5 → Nat :=
  let c0_784 : Index := 0#32
  let arg0 : BitVec 32 := BitVec.ofNat 32 (i 0).val
  let c4_i32 : BitVec 32 := 4#32
  let v0 : BitVec 32 := Scalar.remsi arg0 c4_i32
  let v1123 : Index := Scalar.indexCast v0
  let c15_785 : Index := 15#32
  let c0_786 : Index := 0#32
  let c0_787 : Index := 0#32
  ![0, v1123.toNat, 15, 0, 0]
def k1_off36 (i : grid1.Coords) : Fin 5 → Nat :=
  let c1_788 : Index := 1#32
  let arg0 : BitVec 32 := BitVec.ofNat 32 (i 0).val
  let c4_i32 : BitVec 32 := 4#32
  let v0 : BitVec 32 := Scalar.remsi arg0 c4_i32
  let v1127 : Index := Scalar.indexCast v0
  let c0_789 : Index := 0#32
  let c0_790 : Index := 0#32
  let c0_791 : Index := 0#32
  ![1, v1127.toNat, 0, 0, 0]
def k1_off37 (i : grid1.Coords) : Fin 2 → Nat :=
  let c0_i32_799 : BitVec 32 := 0#32
  let arg0 : BitVec 32 := BitVec.ofNat 32 (i 0).val
  let c4_i32 : BitVec 32 := 4#32
  let v0 : BitVec 32 := Scalar.remsi arg0 c4_i32
  ![0, v0.toNat]
def k1_off38 (i : grid1.Coords) : Fin 3 → Nat :=
  let c16_i32 : BitVec 32 := 16#32
  let arg0 : BitVec 32 := BitVec.ofNat 32 (i 0).val
  let v1137 : BitVec 32 := Scalar.muli c16_i32 arg0
  let c0_i32_800 : BitVec 32 := 0#32
  let c0_i32_801 : BitVec 32 := 0#32
  ![v1137.toNat, 0, 0]
def k1_off39 (i : grid1.Coords) : Fin 5 → Nat :=
  let c0_i32_798 : BitVec 32 := 0#32
  let arg0 : BitVec 32 := BitVec.ofNat 32 (i 0).val
  let c4_i32 : BitVec 32 := 4#32
  let v0 : BitVec 32 := Scalar.remsi arg0 c4_i32
  let c0_i32_802 : BitVec 32 := 0#32
  let c0_i32_803 : BitVec 32 := 0#32
  let c0_i32_804 : BitVec 32 := 0#32
  ![0, v0.toNat, 0, 0, 0]
def k1_off40 (i : grid1.Coords) : Fin 2 → Nat :=
  let c1_i32_806 : BitVec 32 := 1#32
  let arg0 : BitVec 32 := BitVec.ofNat 32 (i 0).val
  let c4_i32 : BitVec 32 := 4#32
  let v0 : BitVec 32 := Scalar.remsi arg0 c4_i32
  ![1, v0.toNat]
def k1_off41 (i : grid1.Coords) : Fin 3 → Nat :=
  let c496_i32 : BitVec 32 := 496#32
  let c16_i32_805 : BitVec 32 := 16#32
  let arg0 : BitVec 32 := BitVec.ofNat 32 (i 0).val
  let v1143 : BitVec 32 := Scalar.muli c16_i32_805 arg0
  let v1144 : BitVec 32 := Scalar.subi c496_i32 v1143
  let c0_i32_807 : BitVec 32 := 0#32
  let c512_i32 : BitVec 32 := 512#32
  ![v1144.toNat, 0, 512]
def k1_off42 (i : grid1.Coords) : Fin 5 → Nat :=
  let c1_i32 : BitVec 32 := 1#32
  let arg0 : BitVec 32 := BitVec.ofNat 32 (i 0).val
  let c4_i32 : BitVec 32 := 4#32
  let v0 : BitVec 32 := Scalar.remsi arg0 c4_i32
  let c0_i32_808 : BitVec 32 := 0#32
  let c0_i32_809 : BitVec 32 := 0#32
  let c0_i32_810 : BitVec 32 := 0#32
  ![1, v0.toNat, 0, 0, 0]
def k1_cond3 (i : grid1.Coords) : BitVec 1 :=
  let arg0 : BitVec 32 := BitVec.ofNat 32 (i 0).val
  let c31_i32 : BitVec 32 := 31#32
  let v1150 : BitVec 1 := Scalar.cmpi .eq arg0 c31_i32
  let v1151 : BitVec 32 := Scalar.extui v1150
  let c0_i32_811 : BitVec 32 := 0#32
  let v1152 : BitVec 1 := Scalar.cmpi .ne v1151 c0_i32_811
  v1152

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c1_i32 : BitVec 32 := 1#32
  let c0_i32_1 : BitVec 32 := 0#32
  ![c0_i32.toNat, v0.toNat, c0_i32_0.toNat, c1_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3x16x64x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x16x64x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x512x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S512x64x1024 : Shape := ⟨3, ![512, 64, 1024]⟩
abbrev S64x1024 : Shape := ⟨2, ![64, 1024]⟩
abbrev S3x1024x512 : Shape := ⟨3, ![3, 1024, 512]⟩
abbrev S3x512x512 : Shape := ⟨3, ![3, 512, 512]⟩
abbrev S3x512 : Shape := ⟨2, ![3, 512]⟩
abbrev S64x512 : Shape := ⟨2, ![64, 512]⟩
abbrev S3x512x512x64 : Shape := ⟨4, ![3, 512, 512, 64]⟩
abbrev S512x3x64x512 : Shape := ⟨4, ![512, 3, 64, 512]⟩
abbrev S_ : Shape := ⟨0, ![]⟩
abbrev S512x64x512 : Shape := ⟨3, ![512, 64, 512]⟩
abbrev S1x3x64x512 : Shape := ⟨4, ![1, 3, 64, 512]⟩
abbrev S3x64x512 : Shape := ⟨3, ![3, 64, 512]⟩
abbrev S1x64x512 : Shape := ⟨3, ![1, 64, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 170
  | .vmem => 0
  | .smem => 0
  | _ => 0

abbrev hbmTy0_0 (i : Nat) : BufTy := match i % 128 with
  | 0 => ⟨S512x64x1024, .f32⟩
  | 1 => ⟨S64x1024, .f32⟩
  | 2 => ⟨S3x1024x512, .f32⟩
  | 3 => ⟨S3x512x512, .f32⟩
  | 4 => ⟨S3x512, .f32⟩
  | 5 => ⟨S3x1024x512, .f32⟩
  | 6 => ⟨S3x512x512, .f32⟩
  | 7 => ⟨S3x512, .f32⟩
  | 8 => ⟨S64x512, .f32⟩
  | 9 => ⟨S64x512, .f32⟩
  | 10 => ⟨S3x512x512x64, .f32⟩
  | 11 => ⟨S512x3x64x512, .f32⟩
  | 12 => ⟨S512x64x1024, .f32⟩
  | 13 => ⟨S3x512x512x64, .f32⟩
  | 14 => ⟨S512x3x64x512, .f32⟩
  | 15 => ⟨S_, .f32⟩
  | 16 => ⟨S512x64x512, .f32⟩
  | 17 => ⟨S_, .f32⟩
  | 18 => ⟨S512x64x512, .f32⟩
  | 19 => ⟨S_, .i32⟩
  | 20 => ⟨S512x3x64x512, .f32⟩
  | 21 => ⟨S512x3x64x512, .f32⟩
  | 22 => ⟨S3x512x512, .f32⟩
  | 23 => ⟨S3x512, .f32⟩
  | 24 => ⟨S3x512x512, .f32⟩
  | 25 => ⟨S3x512, .f32⟩
  | 26 => ⟨S_, .i32⟩
  | 27 => ⟨S64x512, .f32⟩
  | 28 => ⟨S64x512, .f32⟩
  | 29 => ⟨S512x64x512, .f32⟩
  | 30 => ⟨S512x64x512, .f32⟩
  | 31 => ⟨S_, .i32⟩
  | 32 => ⟨S_, .i1⟩
  | 33 => ⟨S_, .i32⟩
  | 34 => ⟨S_, .i32⟩
  | 35 => ⟨S_, .i32⟩
  | 36 => ⟨S1x3x64x512, .f32⟩
  | 37 => ⟨S3x64x512, .f32⟩
  | 38 => ⟨S_, .i32⟩
  | 39 => ⟨S_, .i32⟩
  | 40 => ⟨S_, .i32⟩
  | 41 => ⟨S1x3x64x512, .f32⟩
  | 42 => ⟨S3x64x512, .f32⟩
  | 43 => ⟨S1x64x512, .f32⟩
  | 44 => ⟨S64x512, .f32⟩
  | 45 => ⟨S1x512x512, .f32⟩
  | 46 => ⟨S512x512, .f32⟩
  | 47 => ⟨S64x512, .f32⟩
  | 48 => ⟨S64x512, .f32⟩
  | 49 => ⟨S1x512, .f32⟩
  | 50 => ⟨S512, .f32⟩
  | 51 => ⟨S1x512, .f32⟩
  | 52 => ⟨S64x512, .f32⟩
  | 53 => ⟨S64x512, .f32⟩
  | 54 => ⟨S64x512, .f32⟩
  | 55 => ⟨S64x512, .f32⟩
  | 56 => ⟨S_, .f32⟩
  | 57 => ⟨S64x512, .f32⟩
  | 58 => ⟨S64x512, .f32⟩
  | 59 => ⟨S_, .f32⟩
  | 60 => ⟨S64x512, .f32⟩
  | 61 => ⟨S64x512, .f32⟩
  | 62 => ⟨S1x64x512, .f32⟩
  | 63 => ⟨S64x512, .f32⟩
  | 64 => ⟨S1x512x512, .f32⟩
  | 65 => ⟨S512x512, .f32⟩
  | 66 => ⟨S64x512, .f32⟩
  | 67 => ⟨S64x512, .f32⟩
  | 68 => ⟨S1x512, .f32⟩
  | 69 => ⟨S512, .f32⟩
  | 70 => ⟨S1x512, .f32⟩
  | 71 => ⟨S64x512, .f32⟩
  | 72 => ⟨S64x512, .f32⟩
  | 73 => ⟨S64x512, .f32⟩
  | 74 => ⟨S64x512, .f32⟩
  | 75 => ⟨S_, .f32⟩
  | 76 => ⟨S64x512, .f32⟩
  | 77 => ⟨S64x512, .f32⟩
  | 78 => ⟨S_, .f32⟩
  | 79 => ⟨S64x512, .f32⟩
  | 80 => ⟨S64x512, .f32⟩
  | 81 => ⟨S1x64x512, .f32⟩
  | 82 => ⟨S64x512, .f32⟩
  | 83 => ⟨S64x512, .f32⟩
  | 84 => ⟨S1x512x512, .f32⟩
  | 85 => ⟨S512x512, .f32⟩
  | 86 => ⟨S64x512, .f32⟩
  | 87 => ⟨S64x512, .f32⟩
  | 88 => ⟨S1x512, .f32⟩
  | 89 => ⟨S512, .f32⟩
  | 90 => ⟨S1x512, .f32⟩
  | 91 => ⟨S64x512, .f32⟩
  | 92 => ⟨S64x512, .f32⟩
  | 93 => ⟨S64x512, .f32⟩
  | 94 => ⟨S64x512, .f32⟩
  | 95 => ⟨S_, .f32⟩
  | 96 => ⟨S64x512, .f32⟩
  | 97 => ⟨S64x512, .f32⟩
  | 98 => ⟨S64x512, .f32⟩
  | 99 => ⟨S64x512, .f32⟩
  | 100 => ⟨S1x64x512, .f32⟩
  | 101 => ⟨S64x512, .f32⟩
  | 102 => ⟨S1x512x512, .f32⟩
  | 103 => ⟨S512x512, .f32⟩
  | 104 => ⟨S64x512, .f32⟩
  | 105 => ⟨S64x512, .f32⟩
  | 106 => ⟨S1x512, .f32⟩
  | 107 => ⟨S512, .f32⟩
  | 108 => ⟨S1x512, .f32⟩
  | 109 => ⟨S64x512, .f32⟩
  | 110 => ⟨S64x512, .f32⟩
  | 111 => ⟨S64x512, .f32⟩
  | 112 => ⟨S64x512, .f32⟩
  | 113 => ⟨S_, .f32⟩
  | 114 => ⟨S64x512, .f32⟩
  | 115 => ⟨S64x512, .f32⟩
  | 116 => ⟨S_, .f32⟩
  | 117 => ⟨S64x512, .f32⟩
  | 118 => ⟨S64x512, .f32⟩
  | 119 => ⟨S1x64x512, .f32⟩
  | 120 => ⟨S64x512, .f32⟩
  | 121 => ⟨S1x512x512, .f32⟩
  | 122 => ⟨S512x512, .f32⟩
  | 123 => ⟨S64x512, .f32⟩
  | 124 => ⟨S64x512, .f32⟩
  | 125 => ⟨S1x512, .f32⟩
  | 126 => ⟨S512, .f32⟩
  | 127 => ⟨S1x512, .f32⟩
  | _ => ⟨S512x64x1024, .f32⟩

abbrev hbmTy0_1 (i : Nat) : BufTy := match i % 128 with
  | 0 => ⟨S64x512, .f32⟩
  | 1 => ⟨S64x512, .f32⟩
  | 2 => ⟨S64x512, .f32⟩
  | 3 => ⟨S64x512, .f32⟩
  | 4 => ⟨S_, .f32⟩
  | 5 => ⟨S64x512, .f32⟩
  | 6 => ⟨S64x512, .f32⟩
  | 7 => ⟨S_, .f32⟩
  | 8 => ⟨S64x512, .f32⟩
  | 9 => ⟨S64x512, .f32⟩
  | 10 => ⟨S1x64x512, .f32⟩
  | 11 => ⟨S64x512, .f32⟩
  | 12 => ⟨S64x512, .f32⟩
  | 13 => ⟨S1x512x512, .f32⟩
  | 14 => ⟨S512x512, .f32⟩
  | 15 => ⟨S64x512, .f32⟩
  | 16 => ⟨S64x512, .f32⟩
  | 17 => ⟨S1x512, .f32⟩
  | 18 => ⟨S512, .f32⟩
  | 19 => ⟨S1x512, .f32⟩
  | 20 => ⟨S64x512, .f32⟩
  | 21 => ⟨S64x512, .f32⟩
  | 22 => ⟨S64x512, .f32⟩
  | 23 => ⟨S64x512, .f32⟩
  | 24 => ⟨S_, .f32⟩
  | 25 => ⟨S64x512, .f32⟩
  | 26 => ⟨S64x512, .f32⟩
  | 27 => ⟨S64x512, .f32⟩
  | 28 => ⟨S64x512, .f32⟩
  | 29 => ⟨S1x64x512, .f32⟩
  | 30 => ⟨S_, .i32⟩
  | 31 => ⟨S_, .i32⟩
  | 32 => ⟨S512x64x512, .f32⟩
  | 33 => ⟨S1x64x512, .f32⟩
  | 34 => ⟨S_, .i32⟩
  | 35 => ⟨S_, .i32⟩
  | 36 => ⟨S512x64x512, .f32⟩
  | 37 => ⟨S_, .i32⟩
  | 38 => ⟨S_, .i32⟩
  | 39 => ⟨S512x64x512, .f32⟩
  | 40 => ⟨S512x64x1024, .f32⟩
  | 41 => ⟨S64x1024, .f32⟩
  | _ => ⟨S512x64x1024, .f32⟩

abbrev hbmTy (i : Nat) : BufTy := match i / 128 with
  | 0 => hbmTy0_0 i
  | 1 => hbmTy0_1 i
  | _ => ⟨S512x64x1024, .f32⟩

abbrev bufTy : (tb : Table) → Fin (tcTables nBuf tb) → BufTy
  | .hbm, ⟨i, _⟩ => hbmTy i
  | _, _ => ⟨S512x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_c : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev main_v9_9 : Ref sig .tc := ⟨.hbm, 29, rfl⟩
abbrev main_v9_10 : Ref sig .tc := ⟨.hbm, 30, rfl⟩
abbrev main_while0c_c_11 : Ref sig .tc := ⟨.hbm, 31, rfl⟩
abbrev main_while0c_v13 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_v0 : Ref sig .tc := ⟨.hbm, 36, rfl⟩
abbrev main_while0b_v13 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_v0 : Ref sig .tc := ⟨.hbm, 41, rfl⟩
abbrev main_while0b_v14 : Ref sig .tc := ⟨.hbm, 42, rfl⟩
abbrev main_while0b_v15 : Ref sig .tc := ⟨.hbm, 43, rfl⟩
abbrev main_while0b_v16 : Ref sig .tc := ⟨.hbm, 44, rfl⟩
abbrev main_while0b_v17 : Ref sig .tc := ⟨.hbm, 45, rfl⟩
abbrev main_while0b_v18 : Ref sig .tc := ⟨.hbm, 46, rfl⟩
abbrev main_while0b_v19 : Ref sig .tc := ⟨.hbm, 47, rfl⟩
abbrev main_while0b_v20 : Ref sig .tc := ⟨.hbm, 48, rfl⟩
abbrev main_while0b_v21 : Ref sig .tc := ⟨.hbm, 49, rfl⟩
abbrev main_while0b_v22 : Ref sig .tc := ⟨.hbm, 50, rfl⟩
abbrev main_while0b_v23 : Ref sig .tc := ⟨.hbm, 51, rfl⟩
abbrev main_while0b_v24 : Ref sig .tc := ⟨.hbm, 52, rfl⟩
abbrev main_while0b_v25 : Ref sig .tc := ⟨.hbm, 53, rfl⟩
abbrev main_while0b_v26 : Ref sig .tc := ⟨.hbm, 54, rfl⟩
abbrev main_while0b_v27 : Ref sig .tc := ⟨.hbm, 55, rfl⟩
abbrev main_while0b_cst_11 : Ref sig .tc := ⟨.hbm, 56, rfl⟩
abbrev main_while0b_v28 : Ref sig .tc := ⟨.hbm, 57, rfl⟩
abbrev main_while0b_v29 : Ref sig .tc := ⟨.hbm, 58, rfl⟩
abbrev main_while0b_cst_12 : Ref sig .tc := ⟨.hbm, 59, rfl⟩
abbrev main_while0b_v30 : Ref sig .tc := ⟨.hbm, 60, rfl⟩
abbrev main_while0b_v31 : Ref sig .tc := ⟨.hbm, 61, rfl⟩
abbrev main_while0b_v32 : Ref sig .tc := ⟨.hbm, 62, rfl⟩
abbrev main_while0b_v33 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_v40 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_cst_13 : Ref sig .tc := ⟨.hbm, 75, rfl⟩
abbrev main_while0b_v45 : Ref sig .tc := ⟨.hbm, 76, rfl⟩
abbrev main_while0b_v46 : Ref sig .tc := ⟨.hbm, 77, rfl⟩
abbrev main_while0b_cst_14 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_v61 : Ref sig .tc := ⟨.hbm, 93, rfl⟩
abbrev main_while0b_v62 : Ref sig .tc := ⟨.hbm, 94, rfl⟩
abbrev main_while0b_cst_15 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_cst_16 : Ref sig .tc := ⟨.hbm, 113, rfl⟩
abbrev main_while0b_v80 : Ref sig .tc := ⟨.hbm, 114, rfl⟩
abbrev main_while0b_v81 : Ref sig .tc := ⟨.hbm, 115, rfl⟩
abbrev main_while0b_cst_17 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_v85 : Ref sig .tc := ⟨.hbm, 120, rfl⟩
abbrev main_while0b_v86 : Ref sig .tc := ⟨.hbm, 121, rfl⟩
abbrev main_while0b_v87 : Ref sig .tc := ⟨.hbm, 122, rfl⟩
abbrev main_while0b_v88 : Ref sig .tc := ⟨.hbm, 123, rfl⟩
abbrev main_while0b_v89 : Ref sig .tc := ⟨.hbm, 124, rfl⟩
abbrev main_while0b_v90 : Ref sig .tc := ⟨.hbm, 125, rfl⟩
abbrev main_while0b_v91 : Ref sig .tc := ⟨.hbm, 126, rfl⟩
abbrev main_while0b_v92 : Ref sig .tc := ⟨.hbm, 127, rfl⟩
abbrev main_while0b_v93 : Ref sig .tc := ⟨.hbm, 128, rfl⟩
abbrev main_while0b_v94 : Ref sig .tc := ⟨.hbm, 129, rfl⟩
abbrev main_while0b_v95 : Ref sig .tc := ⟨.hbm, 130, rfl⟩
abbrev main_while0b_v96 : Ref sig .tc := ⟨.hbm, 131, rfl⟩
abbrev main_while0b_cst_18 : Ref sig .tc := ⟨.hbm, 132, rfl⟩
abbrev main_while0b_v97 : Ref sig .tc := ⟨.hbm, 133, rfl⟩
abbrev main_while0b_v98 : Ref sig .tc := ⟨.hbm, 134, rfl⟩
abbrev main_while0b_cst_19 : Ref sig .tc := ⟨.hbm, 135, rfl⟩
abbrev main_while0b_v99 : Ref sig .tc := ⟨.hbm, 136, rfl⟩
abbrev main_while0b_v100 : Ref sig .tc := ⟨.hbm, 137, rfl⟩
abbrev main_while0b_v101 : Ref sig .tc := ⟨.hbm, 138, rfl⟩
abbrev main_while0b_v102 : Ref sig .tc := ⟨.hbm, 139, rfl⟩
abbrev main_while0b_v103 : Ref sig .tc := ⟨.hbm, 140, rfl⟩
abbrev main_while0b_v104 : Ref sig .tc := ⟨.hbm, 141, rfl⟩
abbrev main_while0b_v105 : Ref sig .tc := ⟨.hbm, 142, rfl⟩
abbrev main_while0b_v106 : Ref sig .tc := ⟨.hbm, 143, rfl⟩
abbrev main_while0b_v107 : Ref sig .tc := ⟨.hbm, 144, rfl⟩
abbrev main_while0b_v108 : Ref sig .tc := ⟨.hbm, 145, rfl⟩
abbrev main_while0b_v109 : Ref sig .tc := ⟨.hbm, 146, rfl⟩
abbrev main_while0b_v110 : Ref sig .tc := ⟨.hbm, 147, rfl⟩
abbrev main_while0b_v111 : Ref sig .tc := ⟨.hbm, 148, rfl⟩
abbrev main_while0b_v112 : Ref sig .tc := ⟨.hbm, 149, rfl⟩
abbrev main_while0b_v113 : Ref sig .tc := ⟨.hbm, 150, rfl⟩
abbrev main_while0b_v114 : Ref sig .tc := ⟨.hbm, 151, rfl⟩
abbrev main_while0b_cst_20 : Ref sig .tc := ⟨.hbm, 152, rfl⟩
abbrev main_while0b_v115 : Ref sig .tc := ⟨.hbm, 153, rfl⟩
abbrev main_while0b_v116 : Ref sig .tc := ⟨.hbm, 154, rfl⟩
abbrev main_while0b_v117 : Ref sig .tc := ⟨.hbm, 155, rfl⟩
abbrev main_while0b_v118 : Ref sig .tc := ⟨.hbm, 156, rfl⟩
abbrev main_while0b_call2_v0 : Ref sig .tc := ⟨.hbm, 157, rfl⟩
abbrev main_while0b_call2_c : Ref sig .tc := ⟨.hbm, 158, rfl⟩
abbrev main_while0b_call2_c_0 : Ref sig .tc := ⟨.hbm, 159, rfl⟩
abbrev main_while0b_v119 : Ref sig .tc := ⟨.hbm, 160, rfl⟩
abbrev main_while0b_call3_v0 : Ref sig .tc := ⟨.hbm, 161, rfl⟩
abbrev main_while0b_call3_c : Ref sig .tc := ⟨.hbm, 162, rfl⟩
abbrev main_while0b_call3_c_0 : Ref sig .tc := ⟨.hbm, 163, rfl⟩
abbrev main_while0b_v120 : Ref sig .tc := ⟨.hbm, 164, rfl⟩
abbrev main_while0b_c_21 : Ref sig .tc := ⟨.hbm, 165, rfl⟩
abbrev main_while0b_v121 : Ref sig .tc := ⟨.hbm, 166, rfl⟩
abbrev main_v10 : Ref sig .tc := ⟨.hbm, 167, rfl⟩
abbrev main_v11 : Ref sig .tc := ⟨.hbm, 168, rfl⟩
abbrev main_v12 : Ref sig .tc := ⟨.hbm, 169, rfl⟩

abbrev nD : Nat := 1
abbrev τ : Topo := Topo.v7x

variable {F : FTy → Type} [FloatOps F]

abbrev main_while0_count : Scf.Loop 32 := ⟨0#32, 512#32, 1#32⟩
-- ==== Proof.KernelIdealRecForm.lean ====
/- The recurrent call's body as a loop: a prologue, sixteen uses of ONE step program, and an epilogue. The printed
   body is this program by definitional unfolding (`body_eq`), so the proofs about it go by induction over the steps. -/
module

public import proofs.«01_k».proof.Proof.Gen.KernelIdeal.Skeleton
public import proofs.«01_k».proof.Proof.Gen.KernelIdeal.Launch

@[expose] public section

set_option maxRecDepth 65536

noncomputable section

namespace Cert.KernelIdeal.Rec

open Idealize.ShloMosaic Idealize.SL.Sem
open Cert.KernelIdeal.Gen

variable {F : FTy → Type} [FloatOps F]

/-- One update of the recurrent state: the three gates' input parts, the two recurrent weight blocks, the state. -/
def gru (x0 x1 x2 : Vec F S1x1x64x512 .bf16) (wru : Vec F S1x512x1024 .bf16) (wc : Vec F S1x512x512 .bf16)
    (h : FVec F S64x512 .f32) : FVec F S64x512 .f32 :=
  let z : FVec F S64x1024 .f32 := matmul dot_S64x512_S512x1024_S64x1024_1_0_0_1_n_n none (truncf .bf16 h bitsLt_bf16_f32)
    (shapeCast S512x1024 wru shapeCasts_S1x512x1024_S512x1024) (constant S64x1024 .f32 0x00000000#32)
  let r : FVec F S64x512 .f32 := logistic (addf (extf .f32 (shapeCast S64x512 x0 shapeCasts_S1x1x64x512_S64x512 : FVec F S64x512 .bf16) bitsLt_bf16_f32)
    (extractStridedSlice S64x512 ![0, 0] z slices_S64x1024_o0_0_S64x512))
  let u : FVec F S64x512 .f32 := logistic (addf (extf .f32 (shapeCast S64x512 x1 shapeCasts_S1x1x64x512_S64x512 : FVec F S64x512 .bf16) bitsLt_bf16_f32)
    (extractStridedSlice S64x512 ![0, 512] z slices_S64x1024_o0_512_S64x512))
  let y : FVec F S64x512 .f32 := matmul dot_S64x512_S512x512_S64x512_1_0_0_1_n_n none (truncf .bf16 (mulf r h) bitsLt_bf16_f32)
    (shapeCast S512x512 wc shapeCasts_S1x512x512_S512x512) (constant S64x512 .f32 0x00000000#32)
  let t : FVec F S64x512 .f32 := tanh (addf (extf .f32 (shapeCast S64x512 x2 shapeCasts_S1x1x64x512_S64x512 : FVec F S64x512 .bf16) bitsLt_bf16_f32) y)
  addf (mulf u h) (mulf (subf (broadcast S64x512 (Scalar.ofBits .f32 0x3F800000#32)) u) t)

/-- The slot of the output tile buffer that a grid point uses. -/
abbrev slot (i : grid1.Coords) : ℕ := (Scalar.remsi (BitVec.ofNat 32 (i 0).val) 4#32).toNat

theorem slot_lt (i : grid1.Coords) : slot i < 4 := k1_off37_inb i 1

theorem inb_x (g : ℕ) (hg : g < 3) (k : ℕ) (hk : k < 16) : ∀ a, (![g, k, 0, 0] : Fin 4 → Nat) a + S1x1x64x512.size a ≤ S3x16x64x512.size a := by
  intro a; fin_cases a <;> simp [S1x1x64x512, S3x16x64x512] <;> omega

theorem inb_o (d : ℕ) (hd : d < 2) (s : ℕ) (hs : s < 4) (k : ℕ) (hk : k < 16) :
    ∀ a, (![d, s, k, 0, 0] : Fin 5 → Nat) a + S1x1x1x64x512.size a ≤ S2x4x16x64x512.size a := by
  intro a; fin_cases a <;> simp [S1x1x1x64x512, S2x4x16x64x512] <;> omega

theorem inb_t (d : ℕ) (hd : d < 2) (s : ℕ) (hs : s < 4) :
    ∀ a, (![d, s, 0, 0, 0] : Fin 5 → Nat) a + S1x1x16x64x512.size a ≤ S2x4x16x64x512.size a := by
  intro a; fin_cases a <;> simp [S1x1x16x64x512, S2x4x16x64x512] <;> omega

theorem inb_s (d : ℕ) (hd : d < 2) (s : ℕ) (hs : s < 4) : ∀ a, (![d, s] : Fin 2 → Nat) a + S1x1.size a ≤ S2x4.size a := by
  intro a; fin_cases a <;> simp [S1x1, S2x4] <;> omega

variable (i : grid1.Coords) (arg1 : Memref sig .tc .vmem S3x16x64x512 .bf16) (arg2 : Memref sig .tc .vmem S3x16x64x512 .bf16)
  (arg3 : Memref sig .tc .vmem S2x512x1024 .bf16) (arg4 : Memref sig .tc .vmem S2x512x512 .bf16) (arg5 : Memref sig .tc .vmem S64x1024 .f32)
  (arg6 : Memref sig .tc .hbm S512x64x1024 .f32) (arg7 : Memref sig .tc .vmem S64x1024 .f32) (arg8 : Memref sig .tc .vmem S2x64x512 .f32)
  (arg9 : Memref sig .tc .vmem S2x4x16x64x512 .f32) (arg10 : DmaSems sig S2x4)

/-- The tile of direction `d` at slot `s`, as the transfers name it. -/
def tile (d : ℕ) (hd : d < 2) (s : ℕ) (hs : s < 4) : Memref sig .tc .vmem S16x64x512 .f32 :=
  (arg9.slice (Rect.unit (s := S2x4x16x64x512) ![d, s, 0, 0, 0] S1x1x16x64x512.size (inb_t d hd s hs)) (fun _ => rfl)).squeeze S16x64x512
    squeezes_S1x1x16x64x512_S16x64x512

/-- Its semaphore cell. -/
def cell (d : ℕ) (hd : d < 2) (s : ℕ) (hs : s < 4) : DmaSem sig :=
  ((arg10.slice (Rect.unit (s := S2x4) ![d, s] S1x1.size (inb_s d hd s hs))).squeeze S_ squeezes_S1x1_S_).sem

/-- Loads of the three gates' input parts at row `k` of a block. -/
def ldx (arg : Memref sig .tc .vmem S3x16x64x512 .bf16) (g : ℕ) (hg : g < 3) (k : ℕ) (hk : k < 16) :
    Prog (TpuEff nD τ sig (Elt F) Λ₀ .tc) (Vec F S1x1x64x512 .bf16) :=
  Prog.lift (.load arg (Rect.unit (s := S3x16x64x512) ![g, k, 0, 0] S1x1x64x512.size (inb_x g hg k hk)).toLoadRect (View.loadsAt_vmem h_S1x1x64x512))

/-- The state of direction `0` after row `k` of its block: loads and the update. -/
def upd0 (k : ℕ) (hk : k < 16) (h : FVec F S64x512 .f32) : Prog (TpuEff nD τ sig (Elt F) Λ₀ .tc) (FVec F S64x512 .f32) := do
  let x0 ← ldx arg1 0 (by decide) k hk
  let x1 ← ldx arg1 1 (by decide) k hk
  let x2 ← ldx arg1 2 (by decide) k hk
  let wru : Vec F S1x512x1024 .bf16 ← Prog.lift (.load arg3 (Rect.unit (s := S2x512x1024) ![0, 0, 0] S1x512x1024.size inb_S2x512x1024_S1x512x1024_0_0_0).toLoadRect (View.loadsAt_vmem h_S1x512x1024))
  let wc : Vec F S1x512x512 .bf16 ← Prog.lift (.load arg4 (Rect.unit (s := S2x512x512) ![0, 0, 0] S1x512x512.size inb_S2x512x512_S1x512x512_0_0_0).toLoadRect (View.loadsAt_vmem h_S1x512x512))
  pure (gru x0 x1 x2 wru wc h)

/-- The state of direction `1`, likewise. -/
def upd1 (k : ℕ) (hk : k < 16) (h : FVec F S64x512 .f32) : Prog (TpuEff nD τ sig (Elt F) Λ₀ .tc) (FVec F S64x512 .f32) := do
  let x0 ← ldx arg2 0 (by decide) k hk
  let x1 ← ldx arg2 1 (by decide) k hk
  let x2 ← ldx arg2 2 (by decide) k hk
  let wru : Vec F S1x512x1024 .bf16 ← Prog.lift (.load arg3 (Rect.unit (s := S2x512x1024) ![1, 0, 0] S1x512x1024.size inb_S2x512x1024_S1x512x1024_1_0_0).toLoadRect (View.loadsAt_vmem h_S1x512x1024))
  let wc : Vec F S1x512x512 .bf16 ← Prog.lift (.load arg4 (Rect.unit (s := S2x512x512) ![1, 0, 0] S1x512x512.size inb_S2x512x512_S1x512x512_1_0_0).toLoadRect (View.loadsAt_vmem h_S1x512x512))
  pure (gru x0 x1 x2 wru wc h)

/-- The store of a state into row `k` of a tile (the row is first read, and the reading dropped). -/
def put (d : ℕ) (hd : d < 2) (s : ℕ) (hs : s < 4) (k : ℕ) (hk : k < 16) (h : FVec F S64x512 .f32) : Prog (TpuEff nD τ sig (Elt F) Λ₀ .tc) PUnit := do
  let _o : Vec F S1x1x1x64x512 .f32 ← Prog.lift (.load arg9 (Rect.unit (s := S2x4x16x64x512) ![d, s, k, 0, 0] S1x1x1x64x512.size (inb_o d hd s hs k hk)).toLoadRect (View.loadsAt_vmem h_S1x1x1x64x512))
  Prog.lift (.store arg9 (Rect.unit (s := S2x4x16x64x512) ![d, s, k, 0, 0] S1x1x1x64x512.size (inb_o d hd s hs k hk))
    (shapeCast S1x1x1x64x512 h shapeCasts_S64x512_S1x1x1x64x512) Finset.univ (View.stores_vmem_bits_univ h_S1x1x1x64x512 rfl) (.inl rfl))

/-- One step of both directions: row `k` of the block forward, row `15 - k` of the other block backward. -/
def step (k : ℕ) (hk : k < 16) (p : FVec F S64x512 .f32 × FVec F S64x512 .f32) :
    Prog (TpuEff nD τ sig (Elt F) Λ₀ .tc) (FVec F S64x512 .f32 × FVec F S64x512 .f32) := do
  let hf ← upd0 arg1 arg3 arg4 k hk p.1
  let hb ← upd1 arg2 arg3 arg4 (15 - k) (by omega) p.2
  put arg9 0 (by decide) (slot i) (slot_lt i) k hk hf
  put arg9 1 (by decide) (slot i) (slot_lt i) (15 - k) (by omega) hb
  pure (hf, hb)

/-- The last `n` of the sixteen steps, from step `k` on. -/
def steps : (n k : ℕ) → n + k = 16 → FVec F S64x512 .f32 × FVec F S64x512 .f32 →
    Prog (TpuEff nD τ sig (Elt F) Λ₀ .tc) (FVec F S64x512 .f32 × FVec F S64x512 .f32)
  | 0, _, _, p => pure p
  | n + 1, k, h, p => step i arg1 arg2 arg3 arg4 arg9 k (by omega) p >>= fun q => steps n (k + 1) (by omega) q

/-- Copying the initial state into the scratch. -/
def pro1A : Prog (TpuEff nD τ sig (Elt F) Λ₀ .tc) PUnit := do
  let a : Vec F S64x512 .f32 ← Prog.lift (.load arg5 (Rect.unit (s := S64x1024) ![0, 0] S64x512.size inb_S64x1024_S64x512_0_0).toLoadRect (View.loadsAt_vmem h_S64x512))
  let _ : Vec F S1x64x512 .f32 ← Prog.lift (.load arg8 (Rect.unit (s := S2x64x512) ![0, 0, 0] S1x64x512.size inb_S2x64x512_S1x64x512_0_0_0).toLoadRect (View.loadsAt_vmem h_S1x64x512))
  Prog.lift (.store arg8 (Rect.unit (s := S2x64x512) ![0, 0, 0] S1x64x512.size inb_S2x64x512_S1x64x512_0_0_0) (shapeCast S1x64x512 a shapeCasts_S64x512_S1x64x512) Finset.univ (View.stores_vmem_bits_univ h_S1x64x512 rfl) (.inl rfl))
  let b : Vec F S64x512 .f32 ← Prog.lift (.load arg5 (Rect.unit (s := S64x1024) ![0, 512] S64x512.size inb_S64x1024_S64x512_0_512).toLoadRect (View.loadsAt_vmem h_S64x512))
  let _ : Vec F S1x64x512 .f32 ← Prog.lift (.load arg8 (Rect.unit (s := S2x64x512) ![1, 0, 0] S1x64x512.size inb_S2x64x512_S1x64x512_1_0_0).toLoadRect (View.loadsAt_vmem h_S1x64x512))
  Prog.lift (.store arg8 (Rect.unit (s := S2x64x512) ![1, 0, 0] S1x64x512.size inb_S2x64x512_S1x64x512_1_0_0) (shapeCast S1x64x512 b shapeCasts_S64x512_S1x64x512) Finset.univ (View.stores_vmem_bits_univ h_S1x64x512 rfl) (.inl rfl))
  pure ⟨⟩

/-- The first point's condition. -/
abbrev cond1 (i : grid1.Coords) : BitVec 1 := Scalar.cmpi .ne (Scalar.extui (Scalar.cmpi .eq (BitVec.ofNat 32 (i 0).val) 0#32) : BitVec 32) 0#32

/-- The initial state, copied in at the first point. -/
def pro1 : Prog (TpuEff nD τ sig (Elt F) Λ₀ .tc) PUnit :=
  if cond1 i = 1#1 then pro1A arg5 arg8 else pure ⟨⟩

/-- A wait on a tile's transfer. -/
def waitTile (d : ℕ) (hd : d < 2) (s : ℕ) (hs : s < 4) : Prog (TpuEff nD τ sig (Elt F) Λ₀ .tc) PUnit :=
  Prog.lift (.waitDma2 (cell arg10 d hd s hs) (tile arg9 d hd s hs) (tile arg9 d hd s hs)
    ((View.wordExact_bits rfl).reshape _ _) ((View.wordExact_bits rfl).reshape _ _))

/-- The waits on the slot's two transfers. -/
def pro2A : Prog (TpuEff nD τ sig (Elt F) Λ₀ .tc) PUnit := do
  waitTile arg9 arg10 0 (by decide) (slot i) (slot_lt i)
  waitTile arg9 arg10 1 (by decide) (slot i) (slot_lt i)
  pure ⟨⟩

/-- The waits on the slot's transfers, from the fifth point on. -/
def pro2 : Prog (TpuEff nD τ sig (Elt F) Λ₀ .tc) PUnit :=
  if k1_cond2 i = 1#1 then pro2A i arg9 arg10 else pure ⟨⟩

/-- The forward tile's part of the output. -/
def outF : Memref sig .tc .hbm S16x64x512 .f32 :=
  arg6.slice (Rect.unit (s := S512x64x1024) (k1_off38 i) S16x64x512.size (k1_off38_inb i)) (fun _ => rfl)

/-- The backward tile's part of the output. -/
def outB : Memref sig .tc .hbm S16x64x512 .f32 :=
  arg6.slice (Rect.unit (s := S512x64x1024) (k1_off41 i) S16x64x512.size (k1_off41_inb i)) (fun _ => rfl)

/-- Starting a tile's transfer to a part of the output. -/
def send (d : ℕ) (hd : d < 2) (s : ℕ) (hs : s < 4) (out : Memref sig .tc .hbm S16x64x512 .f32) : Prog (TpuEff nD τ sig (Elt F) Λ₀ .tc) PUnit :=
  Prog.lift (.enqueueDma (tile arg9 d hd s hs) (.here out) (.dma (cell arg10 d hd s hs))
    ((View.wordExact_bits rfl).reshape _ _) (View.wordExact_bits rfl) ⟨Or.inl rfl, trivial⟩)

/-- Reading the two states out of the scratch. -/
def ldh : Prog (TpuEff nD τ sig (Elt F) Λ₀ .tc) (FVec F S64x512 .f32 × FVec F S64x512 .f32) := do
  let a : Vec F S1x64x512 .f32 ← Prog.lift (.load arg8 (Rect.unit (s := S2x64x512) ![0, 0, 0] S1x64x512.size inb_S2x64x512_S1x64x512_0_0_0).toLoadRect (View.loadsAt_vmem h_S1x64x512))
  let b : Vec F S1x64x512 .f32 ← Prog.lift (.load arg8 (Rect.unit (s := S2x64x512) ![1, 0, 0] S1x64x512.size inb_S2x64x512_S1x64x512_1_0_0).toLoadRect (View.loadsAt_vmem h_S1x64x512))
  pure (shapeCast S64x512 a shapeCasts_S1x64x512_S64x512, shapeCast S64x512 b shapeCasts_S1x64x512_S64x512)

/-- Writing them back. -/
def sth (p : FVec F S64x512 .f32 × FVec F S64x512 .f32) : Prog (TpuEff nD τ sig (Elt F) Λ₀ .tc) PUnit := do
  let _ : Vec F S1x64x512 .f32 ← Prog.lift (.load arg8 (Rect.unit (s := S2x64x512) ![0, 0, 0] S1x64x512.size inb_S2x64x512_S1x64x512_0_0_0).toLoadRect (View.loadsAt_vmem h_S1x64x512))
  Prog.lift (.store arg8 (Rect.unit (s := S2x64x512) ![0, 0, 0] S1x64x512.size inb_S2x64x512_S1x64x512_0_0_0) (shapeCast S1x64x512 p.1 shapeCasts_S64x512_S1x64x512) Finset.univ (View.stores_vmem_bits_univ h_S1x64x512 rfl) (.inl rfl))
  let _ : Vec F S1x64x512 .f32 ← Prog.lift (.load arg8 (Rect.unit (s := S2x64x512) ![1, 0, 0] S1x64x512.size inb_S2x64x512_S1x64x512_1_0_0).toLoadRect (View.loadsAt_vmem h_S1x64x512))
  Prog.lift (.store arg8 (Rect.unit (s := S2x64x512) ![1, 0, 0] S1x64x512.size inb_S2x64x512_S1x64x512_1_0_0) (shapeCast S1x64x512 p.2 shapeCasts_S64x512_S1x64x512) Finset.univ (View.stores_vmem_bits_univ h_S1x64x512 rfl) (.inl rfl))

/-- The last states, stored to the second result. -/
def stl (p : FVec F S64x512 .f32 × FVec F S64x512 .f32) : Prog (TpuEff nD τ sig (Elt F) Λ₀ .tc) PUnit := do
  let _ : Vec F S64x512 .f32 ← Prog.lift (.load arg7 (Rect.unit (s := S64x1024) ![0, 0] S64x512.size inb_S64x1024_S64x512_0_0).toLoadRect (View.loadsAt_vmem h_S64x512))
  Prog.lift (.store arg7 (Rect.unit (s := S64x1024) ![0, 0] S64x512.size inb_S64x1024_S64x512_0_0) p.1 Finset.univ (View.stores_vmem_bits_univ h_S64x512 rfl) (.inl rfl))
  let _ : Vec F S64x512 .f32 ← Prog.lift (.load arg7 (Rect.unit (s := S64x1024) ![0, 512] S64x512.size inb_S64x1024_S64x512_0_512).toLoadRect (View.loadsAt_vmem h_S64x512))
  Prog.lift (.store arg7 (Rect.unit (s := S64x1024) ![0, 512] S64x512.size inb_S64x1024_S64x512_0_512) p.2 Finset.univ (View.stores_vmem_bits_univ h_S64x512 rfl) (.inl rfl))

/-- At the last point: the last states out, and every transfer waited for. -/
def epi (p : FVec F S64x512 .f32 × FVec F S64x512 .f32) : Prog (TpuEff nD τ sig (Elt F) Λ₀ .tc) PUnit :=
  if k1_h3 : k1_cond3 i = 1#1 then do
    stl arg7 p
    waitTile arg9 arg10 0 (by decide) 0 (by decide)
    waitTile arg9 arg10 0 (by decide) 1 (by decide)
    waitTile arg9 arg10 0 (by decide) 2 (by decide)
    waitTile arg9 arg10 0 (by decide) 3 (by decide)
    waitTile arg9 arg10 1 (by decide) 0 (by decide)
    waitTile arg9 arg10 1 (by decide) 1 (by decide)
    waitTile arg9 arg10 1 (by decide) 2 (by decide)
    waitTile arg9 arg10 1 (by decide) 3 (by decide)
    pure ⟨⟩
  else pure ⟨⟩

/-- The body between prologue and epilogue. -/
def mid : Prog (TpuEff nD τ sig (Elt F) Λ₀ .tc) PUnit := do
  let p ← ldh arg8
  let q ← steps i arg1 arg2 arg3 arg4 arg9 16 0 rfl p
  sth arg8 q
  send arg9 arg10 0 (by decide) (slot i) (slot_lt i) (outF i arg6)
  send arg9 arg10 1 (by decide) (slot i) (slot_lt i) (outB i arg6)
  epi i arg7 arg9 arg10 q

/-- Moving two guarded leading programs out of nested sequences. -/
theorem assoc_front {E : Type → Type} {α β γ : Type} (c₁ c₂ : Prop) [Decidable c₁] [Decidable c₂] (a b : Prog E PUnit) (t : Prog E α)
    (k₁ : α → Prog E β) (k₂ : β → Prog E γ) (m : Prog E γ) (h : (t >>= k₁) >>= k₂ = m) :
    ((if c₁ then a >>= fun _ => if c₂ then b >>= fun _ => t else t else if c₂ then b >>= fun _ => t else t) >>= k₁) >>= k₂
      = ((if c₁ then a else pure ⟨⟩) >>= fun _ => (if c₂ then b else pure ⟨⟩) >>= fun _ => m) := by
  subst h; split <;> split <;> simp only [bind_assoc, pure_bind]

/-- The loads the first step starts with, and the values it passes on. -/
def tail3 : Prog (TpuEff nD τ sig (Elt F) Λ₀ .tc) (Σ' (_ : BitVec 32) (_ : BitVec 32) (_ : FVec F S64x512 .f32) (_ : FVec F S64x512 .f32) (_ : FVec F S64x512 .bf16) (_ : FVec F S64x512 .bf16) (_ : FVec F S512x512 .bf16) (_ : FVec F S64x1024 .f32), FVec F S64x512 .f32) := do
  let v7 : Vec F S1x64x512 .f32 ← Prog.lift (.load arg8 (Rect.unit (s := S2x64x512) ![0, 0, 0] S1x64x512.size inb_S2x64x512_S1x64x512_0_0_0).toLoadRect (View.loadsAt_vmem h_S1x64x512))
  let v9 : Vec F S1x64x512 .f32 ← Prog.lift (.load arg8 (Rect.unit (s := S2x64x512) ![1, 0, 0] S1x64x512.size inb_S2x64x512_S1x64x512_1_0_0).toLoadRect (View.loadsAt_vmem h_S1x64x512))
  let v11 ← ldx arg1 0 (by decide) 0 (by decide)
  let v13 ← ldx arg1 1 (by decide) 0 (by decide)
  let v15 ← ldx arg1 2 (by decide) 0 (by decide)
  let v17 : Vec F S1x512x1024 .bf16 ← Prog.lift (.load arg3 (Rect.unit (s := S2x512x1024) ![0, 0, 0] S1x512x1024.size inb_S2x512x1024_S1x512x1024_0_0_0).toLoadRect (View.loadsAt_vmem h_S1x512x1024))
  let v19 : Vec F S1x512x512 .bf16 ← Prog.lift (.load arg4 (Rect.unit (s := S2x512x512) ![0, 0, 0] S1x512x512.size inb_S2x512x512_S1x512x512_0_0_0).toLoadRect (View.loadsAt_vmem h_S1x512x512))
  pure ⟨BitVec.ofNat 32 (i 0).val, Scalar.remsi (BitVec.ofNat 32 (i 0).val) 4#32, k1_pay3 v7, k1_pay4 v9, k1_pay5 v13, k1_pay6 v15, k1_pay7 v19, k1_pay8 v7 v17, k1_pay9 v7 v11 v17⟩

/-- The first printed part: the two guarded programs before those loads. -/
theorem part3_eq (harg1 harg2 harg3 harg4 harg5 harg6 harg7 harg8 harg9) :
    k1_part3 (F := F) i arg1 harg1 arg2 harg2 arg3 harg3 arg4 harg4 arg5 harg5 arg6 harg6 arg7 harg7 arg8 harg8 arg9 harg9 arg10
      = (if cond1 i = 1#1 then pro1A arg5 arg8 >>= fun _ => if k1_cond2 i = 1#1 then pro2A i arg9 arg10 >>= fun _ => tail3 i arg1 arg3 arg4 arg8 else tail3 i arg1 arg3 arg4 arg8
        else if k1_cond2 i = 1#1 then pro2A i arg9 arg10 >>= fun _ => tail3 i arg1 arg3 arg4 arg8 else tail3 i arg1 arg3 arg4 arg8) := by
  chain_rfl

/-- The printed body is the loop form. -/
theorem body_eq (harg1 harg2 harg3 harg4 harg5 harg6 harg7 harg8 harg9) :
    cc1_bigru_rec (F := F) i arg1 harg1 arg2 harg2 arg3 harg3 arg4 harg4 arg5 harg5 arg6 harg6 arg7 harg7 arg8 harg8 arg9 harg9 arg10
      = (pro1 i arg5 arg8 >>= fun _ => pro2 i arg9 arg10 >>= fun _ => mid i arg1 arg2 arg3 arg4 arg6 arg7 arg8 arg9 arg10) := by
  delta cc1_bigru_rec k1_part36
  rw [part3_eq]
  refine assoc_front (cond1 i = 1#1) (k1_cond2 i = 1#1) (pro1A arg5 arg8) (pro2A i arg9 arg10) (tail3 i arg1 arg3 arg4 arg8) _ _ _ ?_
  chain_rfl

end Cert.KernelIdeal.Rec
-- ==== Proof.KernelIdealRules.lean ====
/- Loads, stores and transfers over memrefs held at their contents as vectors: what a load returns and what a store
   leaves, with no mention of the buffer behind the memref. -/
module

public import proofs.«01_k».proof.Proof.KernelIdealRecForm
public import Idealize.ShloMosaic.Lib.Pipeline.RegionsLoop
public import Idealize.ShloMosaic.Lib.Pipeline.Frame
public import Idealize.ShloMosaic.Lib.Pipeline.TableIdle
public import Idealize.ShloMosaic.Lib.VecWindow
public import Idealize.ShloMosaic.Lib.Transfers
public import Idealize.ShloMosaic.Lib.ValueLayout
public import Idealize.ShloMosaic.Lib.Tactic

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The resource algebra of the two regions and of the transfers the second one issues. -/
abbrev UU : Type := Pipeline.UD sig nD τ

local notation "𝕄" => MT nD τ sig Unit (Elt F) ℕ UU ℕ

variable (𝒱 : Variants) (c : Dev nD) (bd : Option 𝒱.V) (E : Set ℕ)

/-- A memref of core `c` held whole-share at contents `X`. -/
abbrev own {sp : Space} {sh : Shape} {e : EltTy} (m : Memref sig .tc sp sh e) (X : sh.Idx → Elt F e) : sProp 𝕄 :=
  owns (c : Thread nD τ) m fullShare X

/-- The same at some contents. -/
abbrev ownE {sp : Space} {sh : Shape} {e : EltTy} (m : Memref sig .tc sp sh e) : sProp 𝕄 :=
  iprop(∃ X : sh.Idx → Elt F e, own c m X)

theorem wp_ret_of {α : Type} (a : α) (Q : α → sProp 𝕄) : Q a ⊢ wp frame (wpE (defs₀ (F := F)) 𝒱 (c : Thread nD τ) bd) E (Prog.ret a) Q :=
  pure_le_wp_ret frame (wpE (defs₀ (F := F)) 𝒱 (c : Thread nD τ) bd) E a Q

theorem own_elim {sp : Space} {sh : Shape} {e : EltTy} (m : Memref sig .tc sp sh e) (X : sh.Idx → Elt F e) :
    own c m X ⊢ iprop(∃ f, ⌜m.view.read (Elt F) f = X⌝ ∗ m.view.loc (c : Thread nD τ) ↦[m.view.set]{fullShare} f) := .rfl

theorem own_intro {sp : Space} {sh : Shape} {e : EltTy} (m : Memref sig .tc sp sh e) (X : sh.Idx → Elt F e)
    (f : Buf (Elt F) (m.view.loc (c : Thread nD τ))) (hf : m.view.read (Elt F) f = X) :
    (m.view.loc (c : Thread nD τ) ↦[m.view.set]{fullShare} f) ⊢ own c m X := by
  iintro H
  unfold own owns
  iexists f
  isplitr; · ipureintro; exact hf
  iexact H

/-- A load returns the window of the contents at its offsets. -/
theorem wp_ld {sp : CoreSpace} {sh : Shape} {e : EltTy} {m : Memref sig .tc sp sh e} {off size : Fin sh.rank → ℕ} {inb : ∀ a, off a + size a ≤ sh.size a}
    {hl : m.view.LoadsAt (Rect.unit off size inb).toLoadRect} {Q : ((Rect.unit off size inb).shape.Idx → Elt F e) → sProp 𝕄} (X : sh.Idx → Elt F e) :
    iprop(own c m X ∗ (own c m X -∗ Q (VecWindow.window X off size inb)))
      ⊢ wp frame (wpE (defs₀ (F := F)) 𝒱 (c : Thread nD τ) bd) E (Prog.lift (.load m (Rect.unit off size inb).toLoadRect hl)) Q := by
  iintro ⟨H, Hk⟩
  ihave H := own_elim c m X $$ H
  icases H with ⟨%f, %hf, H⟩
  iapply (wp_load 𝒱 (c : Thread nD τ) bd E (S := m.view.set) (by
    rw [View.set]; exact Finset.map_subset_map.mpr (Finset.subset_univ _))) $$ H
  iintro H
  iapply (wp_ret_of 𝒱 c bd E _ Q)
  rw [show m.view.readAt (Elt F) (Rect.unit off size inb).toLoadRect f = VecWindow.window X off size inb from by rw [← hf]; rfl]
  iapply Hk
  iapply (own_intro c m X f hf) $$ H

/-- An unmasked store puts its payload at its offsets. -/
theorem wp_st {sp : CoreSpace} {sh : Shape} {e : EltTy} {m : Memref sig .tc sp sh e} {off size : Fin sh.rank → ℕ} {inb : ∀ a, off a + size a ≤ sh.size a}
    {w : (Rect.unit off size inb).shape.Idx → Elt F e} {hx : (m.access (Rect.unit off size inb)).Stores Finset.univ} {hm} {Q : PUnit → sProp 𝕄} (X : sh.Idx → Elt F e) :
    iprop(own c m X ∗ (own c m (VecWindow.put X off size w) -∗ Q ⟨⟩))
      ⊢ wp frame (wpE (defs₀ (F := F)) 𝒱 (c : Thread nD τ) bd) E (Prog.lift (.store m (Rect.unit off size inb) w Finset.univ hx hm)) Q := by
  iintro ⟨H, Hk⟩
  ihave H := own_elim c m X $$ H
  icases H with ⟨%f, %hf, H⟩
  iapply (wp_store 𝒱 (c : Thread nD τ) bd E (m := m) (r := Rect.unit off size inb) (S := m.view.set) (View.set_slice_subset _ _)) $$ H
  iintro H
  iapply (wp_ret_of 𝒱 c bd E _ Q)
  iapply Hk
  iapply (own_intro c m _ _ ?_) $$ H
  rw [← hf]
  exact View.read_writes_cons_put m.view f inb w [] rfl

/-! ## A slot of the output tile buffer -/

open Idealize.ShloMosaic.ValueIdx

variable (arg9 : Memref sig .tc .vmem S2x4x16x64x512 .f32) (d : ℕ) (hd : d < 2) (s : ℕ) (hs : s < 4)

theorem emb_unit_val {sh : Shape} (off size : Fin sh.rank → ℕ) (inb : ∀ a, off a + size a ≤ sh.size a) (z : (Rect.unit off size inb).shape.Idx)
    (a : Fin sh.rank) : ((Rect.unit off size inb).emb z a).val = off a + (z a).val := by
  show off a + 1 * (z a).val = _; omega

theorem tile_pos (x : Fin 16) (y : Fin 64) (z : Fin 512) :
    (Rect.unit (s := S2x4x16x64x512) ![d, s, 0, 0, 0] S1x1x16x64x512.size (inb_t d hd s hs)).emb
      (Shape.reshapeEquiv squeezes_S1x1x16x64x512_S16x64x512.numel_eq (ix3 x y z)) = ix5 (⟨d, hd⟩ : Fin 2) (⟨s, hs⟩ : Fin 4) x y z := by
  refine (congrArg _ (reshapeEquiv_ix3_11abc (a := 16) (b := 64) (c := 512) squeezes_S1x1x16x64x512_S16x64x512.numel_eq x y z)).trans ?_
  funext a
  apply Fin.ext
  refine (emb_unit_val _ _ _ _ _).trans ?_
  fin_cases a <;> simp [ix5]

/-- Where element `(x, y, z)` of the tile `(d, s)` lies in the buffer. -/
theorem tile_emb (x : Fin 16) (y : Fin 64) (z : Fin 512) :
    (tile arg9 d hd s hs).view.emb (ix3 x y z) = arg9.view.emb (ix5 (⟨d, hd⟩ : Fin 2) (⟨s, hs⟩ : Fin 4) x y z) :=
  congrArg arg9.view.emb (tile_pos d hd s hs x y z)

theorem tile_read (f : Buf (Elt F) (arg9.view.loc (c : Thread nD τ))) (x : Fin 16) (y : Fin 64) (z : Fin 512) :
    (tile arg9 d hd s hs).view.read (Elt F) f (ix3 x y z) = arg9.view.read (Elt F) f (ix5 (⟨d, hd⟩ : Fin 2) (⟨s, hs⟩ : Fin 4) x y z) :=
  congrArg (arg9.view.read (Elt F) f) (tile_pos d hd s hs x y z)

/-- The rectangle of row `k` of tile `(d, s)`, and the elements of the tile in the buffer. -/
abbrev rowR (k : ℕ) (hk : k < 16) : Rect S2x4x16x64x512 := Rect.unit (s := S2x4x16x64x512) ![d, s, k, 0, 0] S1x1x1x64x512.size (inb_o d hd s hs k hk)
abbrev tileSet : Finset (Idx (arg9.view.loc (c : Thread nD τ))) := (tile arg9 d hd s hs).view.set

/-- Row `k` of the buffer's tile `(d, s)` lies in the tile. -/
theorem row_subset (k : ℕ) (hk : k < 16) :
    (arg9.access (Rect.unit (s := S2x4x16x64x512) ![d, s, k, 0, 0] S1x1x1x64x512.size (inb_o d hd s hs k hk))).set ⊆ (tile arg9 d hd s hs).view.set := by
  intro i hi
  obtain ⟨z, -, rfl⟩ := Finset.mem_map.mp hi
  refine Finset.mem_map.mpr ⟨ix3 (⟨k, hk⟩ : Fin 16) (z 3 : Fin 64) (z 4 : Fin 512), Finset.mem_univ _, ?_⟩
  refine (tile_emb arg9 d hd s hs _ _ _).trans ?_
  refine congrArg arg9.view.emb (a₂ := (Rect.unit (s := S2x4x16x64x512) ![d, s, k, 0, 0] S1x1x1x64x512.size (inb_o d hd s hs k hk)).emb z) ?_
  have h0 : (z 0).val = 0 := by have := (z 0).isLt; simpa [S1x1x1x64x512, Rect.unit] using this
  have h1 : (z 1).val = 0 := by have := (z 1).isLt; simpa [S1x1x1x64x512, Rect.unit] using this
  have h2 : (z 2).val = 0 := by have := (z 2).isLt; simpa [S1x1x1x64x512, Rect.unit] using this
  funext a
  apply Fin.ext
  refine Eq.trans ?_ (emb_unit_val _ _ _ _ _).symm
  fin_cases a <;> simp [ix5, h0, h1, h2]

/-- A tile with row `k` replaced. -/
def setRow {α : Type} (Z : S16x64x512.Idx → α) (k : ℕ) (h : S64x512.Idx → α) : S16x64x512.Idx → α :=
  fun y => if (y 0).val = k then h (ix2 (y 1 : Fin 64) (y 2 : Fin 512)) else Z y

theorem tile_elim (Z : S16x64x512.Idx → Elt F .f32) : own c (tile arg9 d hd s hs) Z
    ⊢ iprop(∃ f : Buf (Elt F) (arg9.view.loc (c : Thread nD τ)), ⌜(tile arg9 d hd s hs).view.read (Elt F) f = Z⌝
      ∗ arg9.view.loc (c : Thread nD τ) ↦[tileSet c arg9 d hd s hs]{fullShare} f) := .rfl

theorem tile_intro (Z : S16x64x512.Idx → Elt F .f32) (f : Buf (Elt F) (arg9.view.loc (c : Thread nD τ)))
    (hf : (tile arg9 d hd s hs).view.read (Elt F) f = Z) :
    (arg9.view.loc (c : Thread nD τ) ↦[tileSet c arg9 d hd s hs]{fullShare} f) ⊢ own c (tile arg9 d hd s hs) Z :=
  own_intro c (tile arg9 d hd s hs) Z f hf

/-- The store of a state into a row of the tile (after a reading of the row whose result is dropped). -/
theorem wp_put (k : ℕ) (hk : k < 16) (h : FVec F S64x512 .f32) (Z : S16x64x512.Idx → Elt F .f32) (Q : PUnit → sProp 𝕄) :
    iprop(own c (tile arg9 d hd s hs) Z ∗ (own c (tile arg9 d hd s hs) (setRow Z k h) -∗ Q ⟨⟩))
      ⊢ wp frame (wpE (defs₀ (F := F)) 𝒱 (c : Thread nD τ) bd) E (put arg9 d hd s hs k hk h) Q := by
  unfold put
  rw [wp_bind]
  iintro ⟨H, Hk⟩
  ihave H := tile_elim c arg9 d hd s hs Z $$ H
  icases H with ⟨%f, %hf, H⟩
  iapply (wp_load_rect 𝒱 (c : Thread nD τ) bd E (m := arg9) (r := rowR d hd s hs k hk) (S := tileSet c arg9 d hd s hs) (row_subset arg9 d hd s hs k hk)) $$ H
  iintro H
  iapply (wp_ret_of 𝒱 c bd E)
  iapply (wp_store 𝒱 (c : Thread nD τ) bd E (m := arg9) (r := rowR d hd s hs k hk) (S := tileSet c arg9 d hd s hs) (row_subset arg9 d hd s hs k hk)) $$ H
  iintro H
  iapply (wp_ret_of 𝒱 c bd E _ Q)
  iapply Hk
  iapply (tile_intro c arg9 d hd s hs _ _ ?_) $$ H
  funext y
  obtain ⟨y0, y1, y2, rfl⟩ : ∃ (y0 : Fin 16) (y1 : Fin 64) (y2 : Fin 512), y = ix3 y0 y1 y2 := ⟨y 0, y 1, y 2, eq_ix3 y⟩
  refine (tile_read c arg9 d hd s hs _ y0 y1 y2).trans ?_
  refine (congrFun (View.read_writes_cons_put arg9.view f (inb_o d hd s hs k hk)
    (shapeCast S1x1x1x64x512 h shapeCasts_S64x512_S1x1x1x64x512) [] rfl) (ix5 (⟨d, hd⟩ : Fin 2) (⟨s, hs⟩ : Fin 4) y0 y1 y2)).trans ?_
  unfold VecWindow.put setRow
  by_cases e : y0.val = k
  · rw [dif_pos (by intro a; fin_cases a <;> simp [ix5, S1x1x1x64x512, e]), if_pos (by simpa [ix3] using e)]
    refine shapeCast_apply _ _ _ (ix2 y1 y2) ?_
    refine (Shape.rowMajor_val_two _).trans (((Shape.rowMajor_val_five _).trans ?_).symm)
    simp [ix5, ix2, Rect.unitLocal, S1x1x1x64x512]
  · rw [dif_neg (by intro hh; have := hh 2; simp [ix5, S1x1x1x64x512] at this; omega), if_neg (by simpa [ix3] using e)]
    rw [View.writes_nil, ← hf]
    exact (tile_read c arg9 d hd s hs f y0 y1 y2).symm

end Cert.KernelIdeal.Rec
-- ==== Proof.KernelIdealProj.lean ====
/- The projection call: its body as six equal steps, and what the body leaves in the output block. -/
module

public import proofs.«01_k».proof.Proof.KernelIdealRules

@[expose] public section

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Rec Idealize.ShloMosaic.ValueIdx

variable {F : FTy → Type} [FloatOps F]

local notation "𝕄" => MT nD τ sig Unit (Elt F) ℕ UU ℕ

variable (arg1 : Memref sig .tc .vmem S16x64x1024 .f32) (arg2 : Memref sig .tc .vmem S2x3x1024x512 .bf16)
  (arg3 : Memref sig .tc .vmem S1x3072 .f32) (arg4 : Memref sig .tc .vmem S3x16x64x1024 .bf16)

theorem inbW (g d : ℕ) (hg : g < 3) (hd : d < 2) : ∀ a, (![d, g, 0, 0] : Fin 4 → ℕ) a + S1x1x1024x512.size a ≤ S2x3x1024x512.size a := by
  intro a; fin_cases a <;> simp [S1x1x1024x512, S2x3x1024x512] <;> omega
theorem inbB (k : ℕ) (hk : k < 6) : ∀ a, (![0, k * 512] : Fin 2 → ℕ) a + S1x512.size a ≤ S1x3072.size a := by
  intro a; fin_cases a <;> simp [S1x512, S1x3072] <;> omega
theorem inbO (g d : ℕ) (hg : g < 3) (hd : d < 2) : ∀ a, (![g, 0, 0, d * 512] : Fin 4 → ℕ) a + S1x16x64x512.size a ≤ S3x16x64x1024.size a := by
  intro a; fin_cases a <;> simp [S1x16x64x512, S3x16x64x1024] <;> omega

/-- One gate and direction: the product with its weights, its bias added, stored in its place of the output block. -/
def step (g d : ℕ) (hg : g < 3) (hd : d < 2)
    (hx : (arg4.access (Rect.unit (s := S3x16x64x1024) ![g, 0, 0, d * 512] S1x16x64x512.size (inbO g d hg hd))).Stores Finset.univ)
    (v2 : FVec F S1024x1024 .bf16) : Prog (TpuEff nD τ sig (Elt F) Λ₀ .tc) PUnit := do
  let w : Vec F S1x1x1024x512 .bf16 ← Prog.lift (.load arg2 (Rect.unit (s := S2x3x1024x512) ![d, g, 0, 0] S1x1x1024x512.size (inbW g d hg hd)).toLoadRect (View.loadsAt_vmem h_S1x1x1024x512))
  let b : Vec F S1x512 .f32 ← Prog.lift (.load arg3 (Rect.unit (s := S1x3072) ![0, (2 * g + d) * 512] S1x512.size (inbB (2 * g + d) (by omega))).toLoadRect (View.loadsAt_vmem h_S1x512))
  let _ : Vec F S1x16x64x512 .bf16 ← Prog.lift (.load arg4 (Rect.unit (s := S3x16x64x1024) ![g, 0, 0, d * 512] S1x16x64x512.size (inbO g d hg hd)).toLoadRect (View.loadsAt_vmem h_S1x16x64x512))
  Prog.lift (.store arg4 (Rect.unit (s := S3x16x64x1024) ![g, 0, 0, d * 512] S1x16x64x512.size (inbO g d hg hd)) (k0_pay6 v2 w b) Finset.univ hx (.inl rfl))

/-- The places of the output block can be stored to. -/
structure CanStore : Prop where
  st : ∀ (g d : ℕ) (hg : g < 3) (hd : d < 2), (arg4.access (Rect.unit (s := S3x16x64x1024) ![g, 0, 0, d * 512] S1x16x64x512.size (inbO g d hg hd))).Stores Finset.univ

/-- The body as six steps. -/
def body (h : CanStore arg4) : Prog (TpuEff nD τ sig (Elt F) Λ₀ .tc) PUnit := do
  let v0 : Vec F S16x64x1024 .f32 ← Prog.lift (.load arg1 (Rect.unit (s := S16x64x1024) ![0, 0, 0] S16x64x1024.size inb_S16x64x1024_S16x64x1024_0_0_0).toLoadRect (View.loadsAt_vmem h_S16x64x1024))
  step arg2 arg3 arg4 0 0 (by decide) (by decide) (h.st 0 0 (by decide) (by decide)) (k0_pay3 v0)
  step arg2 arg3 arg4 0 1 (by decide) (by decide) (h.st 0 1 (by decide) (by decide)) (k0_pay3 v0)
  step arg2 arg3 arg4 1 0 (by decide) (by decide) (h.st 1 0 (by decide) (by decide)) (k0_pay3 v0)
  step arg2 arg3 arg4 1 1 (by decide) (by decide) (h.st 1 1 (by decide) (by decide)) (k0_pay3 v0)
  step arg2 arg3 arg4 2 0 (by decide) (by decide) (h.st 2 0 (by decide) (by decide)) (k0_pay3 v0)
  step arg2 arg3 arg4 2 1 (by decide) (by decide) (h.st 2 1 (by decide) (by decide)) (k0_pay3 v0)
  pure ⟨⟩

theorem canStore (h4 : arg4.IsWhole) : CanStore arg4 := ⟨fun g d hg hd => by
  rcases (by omega : g = 0 ∨ g = 1 ∨ g = 2) with rfl | rfl | rfl <;> rcases (by omega : d = 0 ∨ d = 1) with rfl | rfl
  · exact View.stores_vmem h_S1x16x64x512 (h4.storeExact_slice rfl _ packedbf16_S3x16x64x1024_S1x16x64x512_0_0_0_0) (fun _ => rfl)
  · exact View.stores_vmem h_S1x16x64x512 (h4.storeExact_slice rfl _ packedbf16_S3x16x64x1024_S1x16x64x512_0_0_0_512) (fun _ => rfl)
  · exact View.stores_vmem h_S1x16x64x512 (h4.storeExact_slice rfl _ packedbf16_S3x16x64x1024_S1x16x64x512_1_0_0_0) (fun _ => rfl)
  · exact View.stores_vmem h_S1x16x64x512 (h4.storeExact_slice rfl _ packedbf16_S3x16x64x1024_S1x16x64x512_1_0_0_512) (fun _ => rfl)
  · exact View.stores_vmem h_S1x16x64x512 (h4.storeExact_slice rfl _ packedbf16_S3x16x64x1024_S1x16x64x512_2_0_0_0) (fun _ => rfl)
  · exact View.stores_vmem h_S1x16x64x512 (h4.storeExact_slice rfl _ packedbf16_S3x16x64x1024_S1x16x64x512_2_0_0_512) (fun _ => rfl)⟩

/-- The printed body is the six steps. -/
theorem body_eq (i : grid0.Coords) (h1 : arg1.IsWhole) (h2 : arg2.IsWhole) (h3 : arg3.IsWhole) (h4 : arg4.IsWhole) :
    cc0_bigru_proj (F := F) i arg1 h1 arg2 h2 arg3 h3 arg4 h4 = body arg1 arg2 arg3 arg4 (canStore arg4 h4) := by
  chain_rfl

variable (c : Dev nD) (𝒱 : Variants) (bd : Option 𝒱.V) (E : Set ℕ)
variable (X : S16x64x1024.Idx → Elt F .f32) (W : S2x3x1024x512.Idx → Elt F .bf16) (B : S1x3072.Idx → Elt F .f32)

/-- What the step of gate `g` and direction `d` stores. -/
def piece (g d : ℕ) (hg : g < 3) (hd : d < 2) : FVec F S1x16x64x512 .bf16 :=
  k0_pay6 (k0_pay3 X) (VecWindow.window W ![d, g, 0, 0] S1x1x1024x512.size (inbW g d hg hd))
    (VecWindow.window B ![0, (2 * g + d) * 512] S1x512.size (inbB (2 * g + d) (by omega)))

/-- The block with that piece in its place. -/
def upd (g d : ℕ) (hg : g < 3) (hd : d < 2) (Y : S3x16x64x1024.Idx → Elt F .bf16) : S3x16x64x1024.Idx → Elt F .bf16 :=
  VecWindow.put Y ![g, 0, 0, d * 512] S1x16x64x512.size (piece X W B g d hg hd)

theorem wp_step (g d : ℕ) (hg : g < 3) (hd : d < 2) (hx) (Y : S3x16x64x1024.Idx → Elt F .bf16) (Q : PUnit → sProp 𝕄) :
    iprop(own c arg2 W ∗ own c arg3 B ∗ own c arg4 Y
        ∗ (own c arg2 W ∗ own c arg3 B ∗ own c arg4 (upd X W B g d hg hd Y) -∗ Q ⟨⟩))
      ⊢ wp frame (wpE (defs₀ (F := F)) 𝒱 (c : Thread nD τ) bd) E (step arg2 arg3 arg4 g d hg hd hx (k0_pay3 X)) Q := by
  unfold step
  rw [wp_bind]
  iintro ⟨H2, H3, H4, Hk⟩
  iapply (wp_ld 𝒱 c bd E W)
  isplitl [H2]; · iexact H2
  iintro H2
  rw [wp_bind]
  iapply (wp_ld 𝒱 c bd E B)
  isplitl [H3]; · iexact H3
  iintro H3
  rw [wp_bind]
  iapply (wp_ld 𝒱 c bd E Y)
  isplitl [H4]; · iexact H4
  iintro H4
  iapply (wp_st 𝒱 c bd E Y)
  isplitl [H4]; · iexact H4
  iintro H4
  iapply Hk
  isplitl [H2]; · iexact H2
  isplitl [H3]; · iexact H3
  iexact H4

/-- The block that the body leaves: every gate and direction's piece in its place. -/
def projV : S3x16x64x1024.Idx → Elt F .bf16 := fun j =>
  if h : (j 3).val < 512 then piece X W B (j 0).val 0 (j 0).isLt (by decide) (ix4 (0 : Fin 1) (j 1 : Fin 16) (j 2 : Fin 64) (⟨(j 3).val, h⟩ : Fin 512))
  else piece X W B (j 0).val 1 (j 0).isLt (by decide)
    (ix4 (0 : Fin 1) (j 1 : Fin 16) (j 2 : Fin 64) (⟨(j 3).val - 512, by have : (j 3).val < 1024 := (j 3).isLt; omega⟩ : Fin 512))

theorem upd_hit (g d : ℕ) (hg : g < 3) (hd : d < 2) (Y : S3x16x64x1024.Idx → Elt F .bf16) (y0 : Fin 3) (y1 : Fin 16) (y2 : Fin 64) (l : Fin 512) (y3 : Fin 1024)
    (h0 : y0.val = g) (h3 : y3.val = d * 512 + l.val) :
    upd X W B g d hg hd Y (ix4 y0 y1 y2 y3) = piece X W B g d hg hd (ix4 (0 : Fin 1) y1 y2 l) := by
  unfold upd VecWindow.put
  rw [dif_pos (by
    have := l.isLt
    intro a; fin_cases a <;> simp [ix4, S1x16x64x512, h0, h3])]
  refine congrArg _ (funext fun a => Fin.ext ?_)
  fin_cases a <;> simp [ix4, Rect.unitLocal, h0, h3]

theorem upd_miss (g d : ℕ) (hg : g < 3) (hd : d < 2) (Y : S3x16x64x1024.Idx → Elt F .bf16) (y : S3x16x64x1024.Idx)
    (h : (y 0).val ≠ g ∨ (y 3).val < d * 512 ∨ d * 512 + 512 ≤ (y 3).val) : upd X W B g d hg hd Y y = Y y := by
  unfold upd VecWindow.put
  rw [dif_neg]
  intro hh
  have a0 := hh 0
  have a3 := hh 3
  simp [S1x16x64x512] at a0 a3
  omega

/-- The six steps fill the block. -/
theorem upds (Y : S3x16x64x1024.Idx → Elt F .bf16) :
    upd X W B 2 1 (by decide) (by decide) (upd X W B 2 0 (by decide) (by decide) (upd X W B 1 1 (by decide) (by decide)
      (upd X W B 1 0 (by decide) (by decide) (upd X W B 0 1 (by decide) (by decide) (upd X W B 0 0 (by decide) (by decide) Y))))) = projV X W B := by
  funext y
  obtain ⟨y0, y1, y2, y3, rfl⟩ : ∃ (y0 : Fin 3) (y1 : Fin 16) (y2 : Fin 64) (y3 : Fin 1024), y = ix4 y0 y1 y2 y3 := ⟨y 0, y 1, y 2, y 3, eq_ix4 y⟩
  have e0 : ((ix4 y0 y1 y2 y3 : S3x16x64x1024.Idx) 0).val = y0.val := rfl
  have e3 : ((ix4 y0 y1 y2 y3 : S3x16x64x1024.Idx) 3).val = y3.val := rfl
  have hy := y3.isLt
  by_cases hl : y3.val < 512
  · have hp : projV X W B (ix4 y0 y1 y2 y3) = piece X W B y0.val 0 y0.isLt (by decide) (ix4 (0 : Fin 1) y1 y2 (⟨y3.val, hl⟩ : Fin 512)) := dif_pos hl
    rw [hp]
    fin_cases y0
    · iterate 5 rw [upd_miss _ _ _ _ _ _ _ _ _ (by rw [e0, e3]; simp <;> omega)]
      exact upd_hit X W B 0 0 _ _ _ _ _ _ _ _ rfl (by simp)
    · iterate 3 rw [upd_miss _ _ _ _ _ _ _ _ _ (by rw [e0, e3]; simp <;> omega)]
      exact upd_hit X W B 1 0 _ _ _ _ _ _ _ _ rfl (by simp)
    · iterate 1 rw [upd_miss _ _ _ _ _ _ _ _ _ (by rw [e0, e3]; simp <;> omega)]
      exact upd_hit X W B 2 0 _ _ _ _ _ _ _ _ rfl (by simp)
  · have hp : projV X W B (ix4 y0 y1 y2 y3) = piece X W B y0.val 1 y0.isLt (by decide) (ix4 (0 : Fin 1) y1 y2 (⟨y3.val - 512, by omega⟩ : Fin 512)) := dif_neg hl
    rw [hp]
    fin_cases y0
    · iterate 4 rw [upd_miss _ _ _ _ _ _ _ _ _ (by rw [e0, e3]; simp <;> omega)]
      exact upd_hit X W B 0 1 _ _ _ _ _ _ _ _ rfl (by simp; omega)
    · iterate 2 rw [upd_miss _ _ _ _ _ _ _ _ _ (by rw [e0, e3]; simp <;> omega)]
      exact upd_hit X W B 1 1 _ _ _ _ _ _ _ _ rfl (by simp; omega)
    · exact upd_hit X W B 2 1 _ _ _ _ _ _ _ _ rfl (by simp; omega)

theorem win_x : VecWindow.window X ![0, 0, 0] S16x64x1024.size inb_S16x64x1024_S16x64x1024_0_0_0 = X := by
  funext j
  refine congrArg X (funext fun a => Fin.ext ?_)
  refine (emb_unit_val _ _ _ _ _).trans ?_
  fin_cases a <;> simp

/-- The body reads its three operands and leaves the whole block. -/
theorem wp_body (h : CanStore arg4) (Y : S3x16x64x1024.Idx → Elt F .bf16) (Q : PUnit → sProp 𝕄) :
    iprop(own c arg1 X ∗ own c arg2 W ∗ own c arg3 B ∗ own c arg4 Y
        ∗ (own c arg1 X ∗ own c arg2 W ∗ own c arg3 B ∗ own c arg4 (projV X W B) -∗ Q ⟨⟩))
      ⊢ wp frame (wpE (defs₀ (F := F)) 𝒱 (c : Thread nD τ) bd) E (body arg1 arg2 arg3 arg4 h) Q := by
  unfold body
  rw [wp_bind]
  iintro ⟨H1, H2, H3, H4, Hk⟩
  iapply (wp_ld 𝒱 c bd E X)
  isplitl [H1]; · iexact H1
  rw [win_x]
  iintro H1
  rw [wp_bind]
  iapply (wp_step arg2 arg3 arg4 c 𝒱 bd E X W B 0 0 _ _ _ Y)
  isplitl [H2]; · iexact H2
  isplitl [H3]; · iexact H3
  isplitl [H4]; · iexact H4
  iintro ⟨H2, H3, H4⟩
  rw [wp_bind]
  iapply (wp_step arg2 arg3 arg4 c 𝒱 bd E X W B 0 1 _ _ _ _)
  isplitl [H2]; · iexact H2
  isplitl [H3]; · iexact H3
  isplitl [H4]; · iexact H4
  iintro ⟨H2, H3, H4⟩
  rw [wp_bind]
  iapply (wp_step arg2 arg3 arg4 c 𝒱 bd E X W B 1 0 _ _ _ _)
  isplitl [H2]; · iexact H2
  isplitl [H3]; · iexact H3
  isplitl [H4]; · iexact H4
  iintro ⟨H2, H3, H4⟩
  rw [wp_bind]
  iapply (wp_step arg2 arg3 arg4 c 𝒱 bd E X W B 1 1 _ _ _ _)
  isplitl [H2]; · iexact H2
  isplitl [H3]; · iexact H3
  isplitl [H4]; · iexact H4
  iintro ⟨H2, H3, H4⟩
  rw [wp_bind]
  iapply (wp_step arg2 arg3 arg4 c 𝒱 bd E X W B 2 0 _ _ _ _)
  isplitl [H2]; · iexact H2
  isplitl [H3]; · iexact H3
  isplitl [H4]; · iexact H4
  iintro ⟨H2, H3, H4⟩
  rw [wp_bind]
  iapply (wp_step arg2 arg3 arg4 c 𝒱 bd E X W B 2 1 _ _ _ _)
  isplitl [H2]; · iexact H2
  isplitl [H3]; · iexact H3
  isplitl [H4]; · iexact H4
  iintro ⟨H2, H3, H4⟩
  rw [upds]
  iapply (wp_ret_of 𝒱 c bd E _ Q)
  iapply Hk
  isplitl [H1]; · iexact H1
  isplitl [H2]; · iexact H2
  isplitl [H3]; · iexact H3
  iexact H4

end Cert.KernelIdeal.Proj
-- ==== Proof.KernelIdealBody0.lean ====
/- The projection call's proof data from any contents of the buffers, its body's obligation, and the array it fills. -/
module

public import proofs.«01_k».proof.Proof.KernelIdealProj
public import proofs.«01_k».proof.Proof.Gen.KernelIdeal.Points
public import proofs.«01_k».proof.Proof.Gen.KernelIdeal.Regions

@[expose] public section

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Rec Idealize.ShloMosaic.ValueIdx
open Idealize.ShloMosaic.Pipeline (Dat Cfg Window BodyObligation)

variable {F : FTy → Type} [FloatOps F]

local notation "𝕄" => MT nD τ sig Unit (Elt F) ℕ UU ℕ

abbrev co0 (u : Fin 32) : grid0.Coords := grid0.coords (Fin.cast N_0.symm u)
abbrev pt0 (t : Fin cfg0.N) : Fin 32 := Fin.cast N_0 t

theorem tr0_eq : ∀ (t : Fin 32) (a : Fin 3), cc0_transform_0 (co0 t) a = (![t.val, 0, 0] : Fin 3 → ℕ) a := by decide +kernel
theorem tr3_eq : ∀ (t : Fin 32) (a : Fin 4), cc0_transform_3 (co0 t) a = (![0, t.val, 0, 0] : Fin 4 → ℕ) a := by decide +kernel

/-- Rows `16 t …` of the input. -/
def xBlk {α : Type} (g : S512x64x1024.Idx → α) (t : Fin 32) : S16x64x1024.Idx → α := fun j =>
  g (ix3 (⟨t.val * 16 + (j 0).val, by have : (j 0).val < 16 := (j 0).isLt; have := t.isLt; omega⟩ : Fin 512) (j 1 : Fin 64) (j 2 : Fin 1024))

theorem blk0 (g : S512x64x1024.Idx → Elt F .f32) (t : Fin cfg0.N) : ((cfg0.win 0).blk t).view.read (Elt F) g = xBlk g (pt0 t) := by
  funext j
  refine congrArg g (funext fun a => Fin.ext ?_)
  show cc0_transform_0 (co0 (pt0 t)) a * S16x64x1024.size a + 1 * (j a).val = _
  rw [tr0_eq]
  fin_cases a
  · show (pt0 t).val * 16 + 1 * (j 0).val = (pt0 t).val * 16 + (j 0).val; omega
  · show 0 * 64 + 1 * (j 1).val = (j 1).val; omega
  · show 0 * 1024 + 1 * (j 2).val = (j 2).val; omega

theorem blk1 (g : S2x3x1024x512.Idx → Elt F .bf16) (t : Fin cfg0.N) : ((cfg0.win 1).blk t).view.read (Elt F) g = g := by
  funext j
  refine congrArg g (funext fun a => Fin.ext ?_)
  show (![0, 0, 0, 0] : Fin 4 → ℕ) a * S2x3x1024x512.size a + 1 * (j a).val = _
  fin_cases a <;> simp

theorem blk2 (g : S1x3072.Idx → Elt F .f32) (t : Fin cfg0.N) : ((cfg0.win 2).blk t).view.read (Elt F) g = g := by
  funext j
  refine congrArg g (funext fun a => Fin.ext ?_)
  show (![0, 0] : Fin 2 → ℕ) a * S1x3072.size a + 1 * (j a).val = _
  fin_cases a <;> simp

theorem blk3 (g : S3x512x64x1024.Idx → Elt F .bf16) (t : Fin cfg0.N) (y0 : Fin 3) (y1 : Fin 16) (y2 : Fin 64) (y3 : Fin 1024) :
    ((cfg0.win 3).blk t).view.emb (ix4 y0 y1 y2 y3 : S3x16x64x1024.Idx)
      = (ix4 y0 (⟨(pt0 t).val * 16 + y1.val, by have := (pt0 t).isLt; omega⟩ : Fin 512) y2 y3 : S3x512x64x1024.Idx) := by
  refine funext fun a => Fin.ext ?_
  show cc0_transform_3 (co0 (pt0 t)) a * S3x16x64x1024.size a + 1 * ((ix4 y0 y1 y2 y3 : S3x16x64x1024.Idx) a).val = _
  rw [tr3_eq]
  fin_cases a
  · show 0 * 3 + 1 * y0.val = y0.val; omega
  · show (pt0 t).val * 16 + 1 * y1.val = (pt0 t).val * 16 + y1.val; omega
  · show 0 * 64 + 1 * y2.val = y2.val; omega
  · show 0 * 1024 + 1 * y3.val = y3.val; omega

variable (V : (c : Dev nD) → (b : Ref sig .tc) → Buf (Elt F) ((c : Thread nD τ).loc b)) (c : Dev nD)

abbrev XX : S512x64x1024.Idx → Elt F .f32 := V c main_arg0
abbrev WX : S2x3x1024x512.Idx → Elt F .bf16 := V c main_v3
abbrev BX : S1x3072.Idx → Elt F .f32 := V c main_v7

/-- The block that grid point `t` leaves. -/
abbrev blkV (t : Fin 32) : S3x16x64x1024.Idx → Elt F .bf16 := projV (xBlk (XX V c) t) (WX V c) (BX V c)

/-- The invariant between the call's ends: the buffers that it does not stage. -/
abbrev Φ0 : sProp 𝕄 := Pipeline.scopedRest (Ix := Unit) (Name := ℕ) (U := UU) (Lvl := ℕ) (Val := Elt F) spec0 c

/-- The proof data of the projection call entered at contents `V`. -/
def dat0 : Dat τ (Elt F) Unit ℕ UU ℕ cfg0 c where
  A w := V c (Pipeline.arrRef spec0 w)
  after w t := match w with
    | ⟨0, _⟩ => xBlk (XX V c) (pt0 t)
    | ⟨1, _⟩ => WX V c
    | ⟨2, _⟩ => BX V c
    | ⟨3, _⟩ => blkV V c (pt0 t)
  Φ _ := Φ0 c
  q _ := fullShare
  owed _ := 0

theorem before0 (t : Fin cfg0.N) (d) : (dat0 V c).before 0 t d = xBlk (XX V c) (pt0 t) :=
  ((dat0 V c).before_in_eq_fetched 0 rfl (fun _ => rfl) (fun _ _ _ => rfl) (fun t => (blk0 (V c main_arg0) t).symm) t d).trans
    (blk0 (V c main_arg0) t)
theorem before1 (t : Fin cfg0.N) (d) : (dat0 V c).before 1 t d = WX V c :=
  ((dat0 V c).before_in_eq_fetched 1 rfl (fun _ => rfl) (fun _ _ _ => rfl) (fun t => (blk1 (V c main_v3) t).symm) t d).trans
    (blk1 (V c main_v3) t)
theorem before2 (t : Fin cfg0.N) (d) : (dat0 V c).before 2 t d = BX V c :=
  ((dat0 V c).before_in_eq_fetched 2 rfl (fun _ => rfl) (fun _ _ _ => rfl) (fun t => (blk2 (V c main_v7) t).symm) t d).trans
    (blk2 (V c main_v7) t)

abbrev 𝒱₀ : Variants := Variants.none

/-- The body's obligation. -/
theorem body0 : BodyObligation (dat0 V c) (defs₀ (F := F)) 𝒱₀ () Set.univ := fun t => by
  rw [bigSep_W0, bigSep_W0]
  dsimp only
  show _ ⊢ wp frame (wpE (defs₀ (F := F)) 𝒱₀ (c : Thread nD τ) none) Set.univ (bodyAt0 t) _
  unfold bodyAt0
  rw [body_eq]
  rw [show (dat0 V c).Φ t.castSucc = Φ0 c from rfl, show (dat0 V c).Φ t.succ = Φ0 c from rfl,
    show (dat0 V c).owesAt () t.succ = (dat0 V c).owesAt () t.castSucc from rfl]
  iintro ⟨HΦ, HO, ⟨%d0, H0⟩, ⟨%d1, H1⟩, ⟨%d2, H2⟩, ⟨%d3, H3⟩⟩
  rw [before0, before1, before2]
  iapply (wp_body (st0_0 t) (st0_1 t) (st0_2 t) (st0_3 t) c 𝒱₀ none Set.univ (xBlk (XX V c) (pt0 t)) (WX V c) (BX V c) _ ((dat0 V c).before 3 t d3))
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-- The whole array the call fills: block `t` of the rows is what grid point `t` leaves. -/
def xgV : S3x512x64x1024.Idx → Elt F .bf16 := fun j =>
  blkV V c (⟨(j 1).val / 16, by have : (j 1).val < 512 := (j 1).isLt; omega⟩ : Fin 32)
    (ix4 (j 0 : Fin 3) (⟨(j 1).val % 16, by omega⟩ : Fin 16) (j 2 : Fin 64) (j 3 : Fin 1024))

theorem xgV_at (t : Fin 32) (y0 : Fin 3) (y1 : Fin 16) (y2 : Fin 64) (y3 : Fin 1024) (h : t.val * 16 + y1.val < 512) :
    xgV V c (ix4 y0 (⟨t.val * 16 + y1.val, h⟩ : Fin 512) y2 y3) = blkV V c t (ix4 y0 y1 y2 y3) := by
  unfold xgV
  have e1 : (⟨(t.val * 16 + y1.val) / 16, by omega⟩ : Fin 32) = t := Fin.ext (by have := y1.isLt; show (t.val * 16 + y1.val) / 16 = t.val; omega)
  have e2 : (⟨(t.val * 16 + y1.val) % 16, by omega⟩ : Fin 16) = y1 := Fin.ext (by have := y1.isLt; show (t.val * 16 + y1.val) % 16 = y1.val; omega)
  show blkV V c (⟨(t.val * 16 + y1.val) / 16, _⟩ : Fin 32) (ix4 y0 (⟨(t.val * 16 + y1.val) % 16, _⟩ : Fin 16) y2 y3) = _
  rw [e1, e2]

/-- The grid point that writes row `i`, and the block's element that is the array's `(i0, i1, i2, i3)`. -/
def tOf (i : Fin 512) : Fin cfg0.N := Fin.cast N_0.symm (⟨i.val / 16, by omega⟩ : Fin 32)

theorem blk3_row (g : S3x512x64x1024.Idx → Elt F .bf16) (i0 : Fin 3) (i1 : Fin 512) (i2 : Fin 64) (i3 : Fin 1024) :
    ((cfg0.win 3).blk (tOf i1)).view.emb (ix4 i0 (⟨i1.val % 16, by omega⟩ : Fin 16) i2 i3 : S3x16x64x1024.Idx)
      = (ix4 i0 i1 i2 i3 : S3x512x64x1024.Idx) := by
  refine (blk3 (F := F) g _ _ _ _ _).trans (congrArg (fun z : Fin 512 => (ix4 i0 z i2 i3 : S3x512x64x1024.Idx)) (Fin.ext ?_))
  show i1.val / 16 * 16 + i1.val % 16 = i1.val
  omega

theorem row_lt (t : Fin 32) (y : Fin 16) : t.val * 16 + y.val < 512 := by omega

/-- After the call the array is that. -/
theorem final0 : (dat0 V c).arrAt 3 cfg0.N = xgV V c := by
  refine (dat0 V c).arrAt_eq_of_cover 3 (xgV V c) (fun t _ => ?_) fun i => ?_
  · funext y
    obtain ⟨y0, y1, y2, y3, rfl⟩ : ∃ (y0 : Fin 3) (y1 : Fin 16) (y2 : Fin 64) (y3 : Fin 1024), y = (ix4 y0 y1 y2 y3 : S3x16x64x1024.Idx) := ⟨y 0, y 1, y 2, y 3, eq_ix4 y⟩
    refine Eq.trans (show _ = blkV V c (pt0 t) (ix4 y0 y1 y2 y3) from rfl) ?_
    refine Eq.trans (xgV_at V c (pt0 t) y0 y1 y2 y3 (row_lt (pt0 t) y1)).symm ?_
    exact (congrArg (xgV V c) (blk3 (F := F) (xgV V c) t y0 y1 y2 y3)).symm
  · obtain ⟨i0, i1, i2, i3, rfl⟩ : ∃ (i0 : Fin 3) (i1 : Fin 512) (i2 : Fin 64) (i3 : Fin 1024), i = (ix4 i0 i1 i2 i3 : S3x512x64x1024.Idx) := ⟨i 0, i 1, i 2, i 3, eq_ix4 i⟩
    have hi := i1.isLt
    refine ⟨tOf i1, flush0_3 (tOf i1), ?_⟩
    rw [← blk3_row (F := F) (xgV V c) i0 i1 i2 i3]
    exact View.emb_mem_set _ _

end Cert.KernelIdeal.Proj
-- ==== Proof.KernelIdealSteps.lean ====
/- The sixteen steps of one grid point: the states they pass through as a recursion on vectors, and what the step
   program leaves in the two output tiles. -/
module

public import proofs.«01_k».proof.Proof.KernelIdealRules

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F]

local notation "𝕄" => MT nD τ sig Unit (Elt F) ℕ UU ℕ

/-- Row `k` of gate `g` in a block of input parts. -/
def row (X : S3x16x64x512.Idx → Elt F .bf16) (g : Fin 3) (k : ℕ) : Vec F S1x1x64x512 .bf16 :=
  fun y => X (ix4 g (⟨k % 16, Nat.mod_lt _ (by decide)⟩ : Fin 16) (y 2 : Fin 64) (y 3 : Fin 512))

/-- Direction `d` of the two stacks of recurrent weights. -/
def wru (W : S2x512x1024.Idx → Elt F .bf16) (d : Fin 2) : Vec F S1x512x1024 .bf16 := fun y => W (ix3 d (y 1 : Fin 512) (y 2 : Fin 1024))
def wc (W : S2x512x512.Idx → Elt F .bf16) (d : Fin 2) : Vec F S1x512x512 .bf16 := fun y => W (ix3 d (y 1 : Fin 512) (y 2 : Fin 512))

/-- The state of direction `d` after row `k` of a block. -/
def up (X : S3x16x64x512.Idx → Elt F .bf16) (W3 : S2x512x1024.Idx → Elt F .bf16) (W4 : S2x512x512.Idx → Elt F .bf16) (d : Fin 2) (k : ℕ)
    (h : FVec F S64x512 .f32) : FVec F S64x512 .f32 :=
  gru (row X 0 k) (row X 1 k) (row X 2 k) (wru W3 d) (wc W4 d) h

/-- The forward states through a block: after `n` rows, from the first. -/
def runF (X : S3x16x64x512.Idx → Elt F .bf16) (W3 : S2x512x1024.Idx → Elt F .bf16) (W4 : S2x512x512.Idx → Elt F .bf16)
    (h : FVec F S64x512 .f32) : ℕ → FVec F S64x512 .f32
  | 0 => h
  | n + 1 => up X W3 W4 0 n (runF X W3 W4 h n)

/-- The backward states through a block: after `n` rows, from the last. -/
def runB (X : S3x16x64x512.Idx → Elt F .bf16) (W3 : S2x512x1024.Idx → Elt F .bf16) (W4 : S2x512x512.Idx → Elt F .bf16)
    (h : FVec F S64x512 .f32) : ℕ → FVec F S64x512 .f32
  | 0 => h
  | n + 1 => up X W3 W4 1 (15 - n) (runB X W3 W4 h n)

/-- The forward tile: row `k` is the state after it. -/
def tileF (X : S3x16x64x512.Idx → Elt F .bf16) (W3 : S2x512x1024.Idx → Elt F .bf16) (W4 : S2x512x512.Idx → Elt F .bf16)
    (h : FVec F S64x512 .f32) : S16x64x512.Idx → Elt F .f32 :=
  fun y => runF X W3 W4 h ((y 0).val + 1) (ix2 (y 1 : Fin 64) (y 2 : Fin 512))

/-- The backward tile: row `k` is the state after rows `15`, …, `k`. -/
def tileB (X : S3x16x64x512.Idx → Elt F .bf16) (W3 : S2x512x1024.Idx → Elt F .bf16) (W4 : S2x512x512.Idx → Elt F .bf16)
    (h : FVec F S64x512 .f32) : S16x64x512.Idx → Elt F .f32 :=
  fun y => runB X W3 W4 h (16 - (y 0).val) (ix2 (y 1 : Fin 64) (y 2 : Fin 512))

theorem window_row (X : S3x16x64x512.Idx → Elt F .bf16) (g : Fin 3) (k : ℕ) (hk : k < 16) :
    VecWindow.window X ![g.val, k, 0, 0] S1x1x64x512.size (inb_x g.val g.isLt k hk) = row X g k := by
  funext y
  refine congrArg X (funext fun a => Fin.ext ((emb_unit_val _ _ _ _ _).trans ?_))
  have h0 : (y 0).val = 0 := by have := (y 0).isLt; simpa [S1x1x64x512, Rect.unit] using this
  have h1 : (y 1).val = 0 := by have := (y 1).isLt; simpa [S1x1x64x512, Rect.unit] using this
  fin_cases a <;> simp [ix4, h0, h1, Nat.mod_eq_of_lt hk]

theorem window_wru (W : S2x512x1024.Idx → Elt F .bf16) (d : Fin 2) (inb) :
    VecWindow.window W ![d.val, 0, 0] S1x512x1024.size inb = wru W d := by
  funext y
  refine congrArg W (funext fun a => Fin.ext ((emb_unit_val _ _ _ _ _).trans ?_))
  have h0 : (y 0).val = 0 := by have := (y 0).isLt; simpa [S1x512x1024, Rect.unit] using this
  fin_cases a <;> simp [ix3, h0]

theorem window_wc (W : S2x512x512.Idx → Elt F .bf16) (d : Fin 2) (inb) :
    VecWindow.window W ![d.val, 0, 0] S1x512x512.size inb = wc W d := by
  funext y
  refine congrArg W (funext fun a => Fin.ext ((emb_unit_val _ _ _ _ _).trans ?_))
  have h0 : (y 0).val = 0 := by have := (y 0).isLt; simpa [S1x512x512, Rect.unit] using this
  fin_cases a <;> simp [ix3, h0]

variable (𝒱 : Variants) (c : Dev nD) (bd : Option 𝒱.V) (E : Set ℕ)
variable (i : grid1.Coords) (arg1 : Memref sig .tc .vmem S3x16x64x512 .bf16) (arg2 : Memref sig .tc .vmem S3x16x64x512 .bf16)
  (arg3 : Memref sig .tc .vmem S2x512x1024 .bf16) (arg4 : Memref sig .tc .vmem S2x512x512 .bf16)
  (arg9 : Memref sig .tc .vmem S2x4x16x64x512 .f32)
variable (X1 X2 : S3x16x64x512.Idx → Elt F .bf16) (W3 : S2x512x1024.Idx → Elt F .bf16) (W4 : S2x512x512.Idx → Elt F .bf16)

theorem wp_ldx (arg : Memref sig .tc .vmem S3x16x64x512 .bf16) (X : S3x16x64x512.Idx → Elt F .bf16) (g : Fin 3) (k : ℕ) (hk : k < 16)
    (Q : Vec F S1x1x64x512 .bf16 → sProp 𝕄) :
    iprop(own c arg X ∗ (own c arg X -∗ Q (row X g k)))
      ⊢ wp frame (wpE (defs₀ (F := F)) 𝒱 (c : Thread nD τ) bd) E (ldx arg g.val g.isLt k hk) Q := by
  rw [← window_row X g k hk]
  exact wp_ld 𝒱 c bd E X

/-- The forward update reads its row and its weights, and returns the next state. -/
theorem wp_upd0 (k : ℕ) (hk : k < 16) (h : FVec F S64x512 .f32) (Q : FVec F S64x512 .f32 → sProp 𝕄) :
    iprop(own c arg1 X1 ∗ own c arg3 W3 ∗ own c arg4 W4 ∗ (own c arg1 X1 ∗ own c arg3 W3 ∗ own c arg4 W4 -∗ Q (up X1 W3 W4 0 k h)))
      ⊢ wp frame (wpE (defs₀ (F := F)) 𝒱 (c : Thread nD τ) bd) E (upd0 arg1 arg3 arg4 k hk h) Q := by
  unfold upd0
  iintro ⟨H1, H3, H4, Hk⟩
  rw [wp_bind]
  iapply (wp_ldx 𝒱 c bd E arg1 X1 0 k hk)
  isplitl [H1]; · iexact H1
  iintro H1
  rw [wp_bind]
  iapply (wp_ldx 𝒱 c bd E arg1 X1 1 k hk)
  isplitl [H1]; · iexact H1
  iintro H1
  rw [wp_bind]
  iapply (wp_ldx 𝒱 c bd E arg1 X1 2 k hk)
  isplitl [H1]; · iexact H1
  iintro H1
  rw [wp_bind]
  iapply (wp_ld 𝒱 c bd E W3)
  isplitl [H3]; · iexact H3
  iintro H3
  rw [wp_bind]
  iapply (wp_ld 𝒱 c bd E W4)
  isplitl [H4]; · iexact H4
  iintro H4
  iapply (wp_ret_of 𝒱 c bd E)
  rw [show VecWindow.window W3 ![0, 0, 0] S1x512x1024.size inb_S2x512x1024_S1x512x1024_0_0_0 = wru W3 0 from window_wru W3 0 _,
    show VecWindow.window W4 ![0, 0, 0] S1x512x512.size inb_S2x512x512_S1x512x512_0_0_0 = wc W4 0 from window_wc W4 0 _,
    show gru (row X1 0 k) (row X1 1 k) (row X1 2 k) (wru W3 0) (wc W4 0) h = up X1 W3 W4 0 k h from rfl]
  iapply Hk
  isplitl [H1]; · iexact H1
  isplitl [H3]; · iexact H3
  iexact H4

/-- The backward update, likewise. -/
theorem wp_upd1 (k : ℕ) (hk : k < 16) (h : FVec F S64x512 .f32) (Q : FVec F S64x512 .f32 → sProp 𝕄) :
    iprop(own c arg2 X2 ∗ own c arg3 W3 ∗ own c arg4 W4 ∗ (own c arg2 X2 ∗ own c arg3 W3 ∗ own c arg4 W4 -∗ Q (up X2 W3 W4 1 k h)))
      ⊢ wp frame (wpE (defs₀ (F := F)) 𝒱 (c : Thread nD τ) bd) E (upd1 arg2 arg3 arg4 k hk h) Q := by
  unfold upd1
  iintro ⟨H1, H3, H4, Hk⟩
  rw [wp_bind]
  iapply (wp_ldx 𝒱 c bd E arg2 X2 0 k hk)
  isplitl [H1]; · iexact H1
  iintro H1
  rw [wp_bind]
  iapply (wp_ldx 𝒱 c bd E arg2 X2 1 k hk)
  isplitl [H1]; · iexact H1
  iintro H1
  rw [wp_bind]
  iapply (wp_ldx 𝒱 c bd E arg2 X2 2 k hk)
  isplitl [H1]; · iexact H1
  iintro H1
  rw [wp_bind]
  iapply (wp_ld 𝒱 c bd E W3)
  isplitl [H3]; · iexact H3
  iintro H3
  rw [wp_bind]
  iapply (wp_ld 𝒱 c bd E W4)
  isplitl [H4]; · iexact H4
  iintro H4
  iapply (wp_ret_of 𝒱 c bd E)
  rw [show VecWindow.window W3 ![1, 0, 0] S1x512x1024.size inb_S2x512x1024_S1x512x1024_1_0_0 = wru W3 1 from window_wru W3 1 _,
    show VecWindow.window W4 ![1, 0, 0] S1x512x512.size inb_S2x512x512_S1x512x512_1_0_0 = wc W4 1 from window_wc W4 1 _,
    show gru (row X2 0 k) (row X2 1 k) (row X2 2 k) (wru W3 1) (wc W4 1) h = up X2 W3 W4 1 k h from rfl]
  iapply Hk
  isplitl [H1]; · iexact H1
  isplitl [H3]; · iexact H3
  iexact H4

/-- The four input blocks, held at their contents. -/
abbrev ins : sProp 𝕄 := iprop(own c arg1 X1 ∗ own c arg2 X2 ∗ own c arg3 W3 ∗ own c arg4 W4)

abbrev tl (d : ℕ) (hd : d < 2) : Memref sig .tc .vmem S16x64x512 .f32 := tile arg9 d hd (slot i) (slot_lt i)

/-- One step: both states advance, and each tile gets the new state's row. -/
theorem wp_step (k : ℕ) (hk : k < 16) (p : FVec F S64x512 .f32 × FVec F S64x512 .f32) (Z0 Z1 : S16x64x512.Idx → Elt F .f32)
    (Q : FVec F S64x512 .f32 × FVec F S64x512 .f32 → sProp 𝕄) :
    iprop(ins c arg1 arg2 arg3 arg4 X1 X2 W3 W4 ∗ own c (tl i arg9 0 (by decide)) Z0 ∗ own c (tl i arg9 1 (by decide)) Z1
        ∗ (ins c arg1 arg2 arg3 arg4 X1 X2 W3 W4 ∗ own c (tl i arg9 0 (by decide)) (setRow Z0 k (up X1 W3 W4 0 k p.1))
            ∗ own c (tl i arg9 1 (by decide)) (setRow Z1 (15 - k) (up X2 W3 W4 1 (15 - k) p.2))
          -∗ Q (up X1 W3 W4 0 k p.1, up X2 W3 W4 1 (15 - k) p.2)))
      ⊢ wp frame (wpE (defs₀ (F := F)) 𝒱 (c : Thread nD τ) bd) E (step i arg1 arg2 arg3 arg4 arg9 k hk p) Q := by
  unfold step
  iintro ⟨⟨H1, H2, H3, H4⟩, HT0, HT1, Hk⟩
  rw [wp_bind]
  iapply (wp_upd0 𝒱 c bd E arg1 arg3 arg4 X1 W3 W4 k hk p.1)
  isplitl [H1]; · iexact H1
  isplitl [H3]; · iexact H3
  isplitl [H4]; · iexact H4
  iintro ⟨H1, H3, H4⟩
  rw [wp_bind]
  iapply (wp_upd1 𝒱 c bd E arg2 arg3 arg4 X2 W3 W4 (15 - k) _ p.2)
  isplitl [H2]; · iexact H2
  isplitl [H3]; · iexact H3
  isplitl [H4]; · iexact H4
  iintro ⟨H2, H3, H4⟩
  rw [wp_bind]
  iapply (wp_put 𝒱 c bd E arg9 0 _ (slot i) (slot_lt i) k hk _ Z0)
  isplitl [HT0]; · iexact HT0
  iintro HT0
  rw [wp_bind]
  iapply (wp_put 𝒱 c bd E arg9 1 _ (slot i) (slot_lt i) (15 - k) _ _ Z1)
  isplitl [HT1]; · iexact HT1
  iintro HT1
  iapply (wp_ret_of 𝒱 c bd E)
  iapply Hk
  isplitl [H1 H2 H3 H4]
  · isplitl [H1]; · iexact H1
    isplitl [H2]; · iexact H2
    isplitl [H3]; · iexact H3
    iexact H4
  isplitl [HT0]; · iexact HT0
  iexact HT1

/-- The steps from `k` on, the tiles' earlier rows being the earlier states. -/
theorem wp_steps_from (h0 h1 : FVec F S64x512 .f32) (Q : FVec F S64x512 .f32 × FVec F S64x512 .f32 → sProp 𝕄) :
    ∀ (n k : ℕ) (hn : n + k = 16) (Z0 Z1 : S16x64x512.Idx → Elt F .f32)
      (_ : ∀ y : S16x64x512.Idx, (y 0).val < k → Z0 y = tileF X1 W3 W4 h0 y)
      (_ : ∀ y : S16x64x512.Idx, 15 < (y 0).val + k → Z1 y = tileB X2 W3 W4 h1 y),
    iprop(ins c arg1 arg2 arg3 arg4 X1 X2 W3 W4 ∗ own c (tl i arg9 0 (by decide)) Z0 ∗ own c (tl i arg9 1 (by decide)) Z1
        ∗ (ins c arg1 arg2 arg3 arg4 X1 X2 W3 W4 ∗ own c (tl i arg9 0 (by decide)) (tileF X1 W3 W4 h0)
            ∗ own c (tl i arg9 1 (by decide)) (tileB X2 W3 W4 h1) -∗ Q (runF X1 W3 W4 h0 16, runB X2 W3 W4 h1 16)))
      ⊢ wp frame (wpE (defs₀ (F := F)) 𝒱 (c : Thread nD τ) bd) E
          (steps i arg1 arg2 arg3 arg4 arg9 n k hn (runF X1 W3 W4 h0 k, runB X2 W3 W4 h1 k)) Q := by
  intro n
  induction n with
  | zero =>
    intro k hn Z0 Z1 hZ0 hZ1
    obtain rfl : k = 16 := by omega
    have e0 : Z0 = tileF X1 W3 W4 h0 := funext fun y => hZ0 y (y 0).isLt
    have e1 : Z1 = tileB X2 W3 W4 h1 := funext fun y => hZ1 y (by omega)
    subst e0 e1
    iintro ⟨HI, HT0, HT1, Hk⟩
    iapply (wp_ret_of 𝒱 c bd E)
    iapply Hk
    isplitl [HI]; · iexact HI
    isplitl [HT0]; · iexact HT0
    iexact HT1
  | succ n ih =>
    intro k hn Z0 Z1 hZ0 hZ1
    rw [steps, wp_bind]
    iintro ⟨HI, HT0, HT1, Hk⟩
    iapply (wp_step 𝒱 c bd E i arg1 arg2 arg3 arg4 arg9 X1 X2 W3 W4 k _ _ Z0 Z1)
    isplitl [HI]; · iexact HI
    isplitl [HT0]; · iexact HT0
    isplitl [HT1]; · iexact HT1
    iintro ⟨HI, HT0, HT1⟩
    iapply (ih (k + 1) (by omega) (setRow Z0 k (up X1 W3 W4 0 k (runF X1 W3 W4 h0 k)))
      (setRow Z1 (15 - k) (up X2 W3 W4 1 (15 - k) (runB X2 W3 W4 h1 k))) ?_ ?_)
    · intro y hy
      unfold setRow
      split
      · next e => show _ = runF X1 W3 W4 h0 ((y 0).val + 1) _; rw [e]; rfl
      · next e => exact hZ0 y (by omega)
    · intro y hy
      unfold setRow
      split
      · next e =>
        show _ = runB X2 W3 W4 h1 (16 - (y 0).val) _
        rw [show 16 - (y 0).val = k + 1 by omega]; rfl
      · next e => exact hZ1 y (by omega)
    isplitl [HI]; · iexact HI
    isplitl [HT0]; · iexact HT0
    isplitl [HT1]; · iexact HT1
    iexact Hk

/-- The sixteen steps fill both tiles with the states and return the last ones. -/
theorem wp_steps (h0 h1 : FVec F S64x512 .f32) (Z0 Z1 : S16x64x512.Idx → Elt F .f32) (Q : FVec F S64x512 .f32 × FVec F S64x512 .f32 → sProp 𝕄) :
    iprop(ins c arg1 arg2 arg3 arg4 X1 X2 W3 W4 ∗ own c (tl i arg9 0 (by decide)) Z0 ∗ own c (tl i arg9 1 (by decide)) Z1
        ∗ (ins c arg1 arg2 arg3 arg4 X1 X2 W3 W4 ∗ own c (tl i arg9 0 (by decide)) (tileF X1 W3 W4 h0)
            ∗ own c (tl i arg9 1 (by decide)) (tileB X2 W3 W4 h1) -∗ Q (runF X1 W3 W4 h0 16, runB X2 W3 W4 h1 16)))
      ⊢ wp frame (wpE (defs₀ (F := F)) 𝒱 (c : Thread nD τ) bd) E
          (steps i arg1 arg2 arg3 arg4 arg9 16 0 rfl (h0, h1)) Q :=
  wp_steps_from 𝒱 c bd E i arg1 arg2 arg3 arg4 arg9 X1 X2 W3 W4 h0 h1 Q 16 0 rfl Z0 Z1 (fun y hy => absurd hy (Nat.not_lt_zero _))
    (fun y hy => by have := (y 0).isLt; simp [S16x64x512] at this; omega)

/-! ## The recurrent state's scratch and the two small arrays -/

/-- Two states stacked. -/
def st2 (a b : FVec F S64x512 .f32) : S2x64x512.Idx → Elt F .f32 :=
  fun y => if (y 0).val = 0 then a (ix2 (y 1 : Fin 64) (y 2 : Fin 512)) else b (ix2 (y 1 : Fin 64) (y 2 : Fin 512))

/-- Two states side by side. -/
def cat (a b : FVec F S64x512 .f32) : S64x1024.Idx → Elt F .f32 :=
  fun y => if h : (y 1).val < 512 then a (ix2 (y 0 : Fin 64) (⟨(y 1).val, h⟩ : Fin 512))
    else b (ix2 (y 0 : Fin 64) (⟨(y 1).val - 512, by have := (y 1).isLt; simp [S64x1024] at this; omega⟩ : Fin 512))

/-- Lanes `512 d …` of an array of two states side by side. -/
def lanes (X : S64x1024.Idx → Elt F .f32) (d : Fin 2) : FVec F S64x512 .f32 :=
  fun y => X (ix2 (y 0 : Fin 64) (⟨512 * d.val + (y 1).val, by have := (y 1).isLt; simp [S64x512] at this; omega⟩ : Fin 1024))

theorem cast_up (a : FVec F S64x512 .f32) (z : S1x64x512.Idx) :
    shapeCast S1x64x512 a shapeCasts_S64x512_S1x64x512 z = a (ix2 (z 1 : Fin 64) (z 2 : Fin 512)) := by
  refine shapeCast_apply _ _ _ _ ?_
  refine (Shape.rowMajor_val_two _).trans (((Shape.rowMajor_val_three _).trans ?_).symm)
  have h0 : (z 0).val = 0 := by have := (z 0).isLt; simpa [S1x64x512] using this
  simp [ix2, h0]

theorem put_st2 (Y : S2x64x512.Idx → Elt F .f32) (a b : FVec F S64x512 .f32) :
    VecWindow.put (VecWindow.put Y ![0, 0, 0] S1x64x512.size (shapeCast S1x64x512 a shapeCasts_S64x512_S1x64x512)) ![1, 0, 0] S1x64x512.size
      (shapeCast S1x64x512 b shapeCasts_S64x512_S1x64x512) = st2 a b := by
  funext y
  obtain ⟨y0, y1, y2, rfl⟩ : ∃ (y0 : Fin 2) (y1 : Fin 64) (y2 : Fin 512), y = ix3 y0 y1 y2 := ⟨y 0, y 1, y 2, eq_ix3 y⟩
  unfold VecWindow.put st2
  by_cases e : y0.val = 0
  · rw [dif_neg (by intro hh; have := hh 0; simp [ix3] at this; omega), dif_pos (by intro q; fin_cases q <;> simp [ix3, S1x64x512, e]), if_pos (by simpa [ix3] using e)]
    refine (cast_up _ _).trans (congrArg a ?_)
    funext q; apply Fin.ext; fin_cases q <;> simp [ix2, Rect.unitLocal, ix3]
  · rw [dif_pos (by intro q; fin_cases q <;> simp [ix3, S1x64x512]; omega), if_neg (by simpa [ix3] using e)]
    refine (cast_up _ _).trans (congrArg b ?_)
    funext q; apply Fin.ext; fin_cases q <;> simp [ix2, Rect.unitLocal, ix3]

theorem cast_down (X : S1x64x512.Idx → Elt F .f32) (z : S64x512.Idx) :
    shapeCast S64x512 X shapeCasts_S1x64x512_S64x512 z = X (ix3 (0 : Fin 1) (z 0 : Fin 64) (z 1 : Fin 512)) := by
  refine shapeCast_apply _ _ _ _ ?_
  refine (Shape.rowMajor_val_three _).trans (((Shape.rowMajor_val_two _).trans ?_).symm)
  simp [ix3]

theorem cast_window_st2_0 (a b : FVec F S64x512 .f32) (inb) :
    shapeCast S64x512 (VecWindow.window (st2 a b) ![0, 0, 0] S1x64x512.size inb) shapeCasts_S1x64x512_S64x512 = a := by
  funext z
  refine (cast_down _ z).trans ?_
  unfold VecWindow.window st2
  rw [if_pos (by rw [emb_unit_val]; simp [ix3])]
  refine congrArg a ?_
  funext q; apply Fin.ext
  fin_cases q <;> exact (emb_unit_val _ _ _ _ _).trans (by simp [ix3])

theorem cast_window_st2_1 (a b : FVec F S64x512 .f32) (inb) :
    shapeCast S64x512 (VecWindow.window (st2 a b) ![1, 0, 0] S1x64x512.size inb) shapeCasts_S1x64x512_S64x512 = b := by
  funext z
  refine (cast_down _ z).trans ?_
  unfold VecWindow.window st2
  rw [if_neg (by rw [emb_unit_val]; simp [ix3])]
  refine congrArg b ?_
  funext q; apply Fin.ext
  fin_cases q <;> exact (emb_unit_val _ _ _ _ _).trans (by simp [ix3])

theorem window_lanes (X : S64x1024.Idx → Elt F .f32) (d : Fin 2) (inb) :
    VecWindow.window X ![0, 512 * d.val] S64x512.size inb = lanes X d := by
  funext y
  refine congrArg X (funext fun a => Fin.ext ((emb_unit_val _ _ _ _ _).trans ?_))
  fin_cases a <;> simp [ix2]

theorem put_cat (Y : S64x1024.Idx → Elt F .f32) (a b : FVec F S64x512 .f32) :
    VecWindow.put (VecWindow.put Y ![0, 0] S64x512.size a) ![0, 512] S64x512.size b = cat a b := by
  funext y
  obtain ⟨y0, y1, rfl⟩ : ∃ (y0 : Fin 64) (y1 : Fin 1024), y = ix2 y0 y1 := ⟨y 0, y 1, eq_ix2 y⟩
  unfold VecWindow.put cat
  by_cases e : y1.val < 512
  · rw [dif_neg (by intro hh; have := hh 1; simp [ix2] at this; omega), dif_pos (by intro q; fin_cases q <;> simp [ix2, S64x512, e]), dif_pos (by simpa [ix2] using e)]
    refine congrArg a ?_
    funext q; apply Fin.ext; fin_cases q <;> simp [ix2, Rect.unitLocal]
  · rw [dif_pos (by intro q; fin_cases q <;> simp [ix2, S64x512]; omega), dif_neg (by simpa [ix2] using e)]
    refine congrArg b ?_
    funext q; apply Fin.ext; fin_cases q <;> simp [ix2, Rect.unitLocal]

variable (arg5 : Memref sig .tc .vmem S64x1024 .f32) (arg7 : Memref sig .tc .vmem S64x1024 .f32) (arg8 : Memref sig .tc .vmem S2x64x512 .f32)

/-- The first point copies the initial states into the scratch. -/
theorem wp_pro1A (X5 : S64x1024.Idx → Elt F .f32) (Y : S2x64x512.Idx → Elt F .f32) (Q : PUnit → sProp 𝕄) :
    iprop(own c arg5 X5 ∗ own c arg8 Y ∗ (own c arg5 X5 ∗ own c arg8 (st2 (lanes X5 0) (lanes X5 1)) -∗ Q ⟨⟩))
      ⊢ wp frame (wpE (defs₀ (F := F)) 𝒱 (c : Thread nD τ) bd) E (pro1A arg5 arg8) Q := by
  unfold pro1A
  iintro ⟨H5, H8, Hk⟩
  rw [wp_bind]
  iapply (wp_ld 𝒱 c bd E X5)
  isplitl [H5]; · iexact H5
  iintro H5
  rw [wp_bind]
  iapply (wp_ld 𝒱 c bd E Y)
  isplitl [H8]; · iexact H8
  iintro H8
  rw [wp_bind]
  iapply (wp_st 𝒱 c bd E Y)
  isplitl [H8]; · iexact H8
  iintro H8
  rw [wp_bind]
  iapply (wp_ld 𝒱 c bd E X5)
  isplitl [H5]; · iexact H5
  iintro H5
  rw [wp_bind]
  iapply (wp_ld 𝒱 c bd E _)
  isplitl [H8]; · iexact H8
  iintro H8
  rw [wp_bind]
  iapply (wp_st 𝒱 c bd E _)
  isplitl [H8]; · iexact H8
  iintro H8
  iapply (wp_ret_of 𝒱 c bd E)
  iapply Hk
  isplitl [H5]; · iexact H5
  rw [put_st2, show VecWindow.window X5 ![0, 0] S64x512.size inb_S64x1024_S64x512_0_0 = lanes X5 0 from window_lanes X5 0 _,
    show VecWindow.window X5 ![0, 512] S64x512.size inb_S64x1024_S64x512_0_512 = lanes X5 1 from window_lanes X5 1 _]
  iexact H8

/-- Reading the scratch returns the two states. -/
theorem wp_ldh (a b : FVec F S64x512 .f32) (Q : FVec F S64x512 .f32 × FVec F S64x512 .f32 → sProp 𝕄) :
    iprop(own c arg8 (st2 a b) ∗ (own c arg8 (st2 a b) -∗ Q (a, b)))
      ⊢ wp frame (wpE (defs₀ (F := F)) 𝒱 (c : Thread nD τ) bd) E (ldh arg8) Q := by
  unfold ldh
  iintro ⟨H8, Hk⟩
  rw [wp_bind]
  iapply (wp_ld 𝒱 c bd E _)
  isplitl [H8]; · iexact H8
  iintro H8
  rw [wp_bind]
  iapply (wp_ld 𝒱 c bd E _)
  isplitl [H8]; · iexact H8
  iintro H8
  iapply (wp_ret_of 𝒱 c bd E)
  rw [cast_window_st2_0, cast_window_st2_1]
  iapply Hk
  iexact H8

/-- Writing the scratch stores the two states. -/
theorem wp_sth (Y : S2x64x512.Idx → Elt F .f32) (p : FVec F S64x512 .f32 × FVec F S64x512 .f32) (Q : PUnit → sProp 𝕄) :
    iprop(own c arg8 Y ∗ (own c arg8 (st2 p.1 p.2) -∗ Q ⟨⟩))
      ⊢ wp frame (wpE (defs₀ (F := F)) 𝒱 (c : Thread nD τ) bd) E (sth arg8 p) Q := by
  unfold sth
  iintro ⟨H8, Hk⟩
  rw [wp_bind]
  iapply (wp_ld 𝒱 c bd E _)
  isplitl [H8]; · iexact H8
  iintro H8
  rw [wp_bind]
  iapply (wp_st 𝒱 c bd E _)
  isplitl [H8]; · iexact H8
  iintro H8
  rw [wp_bind]
  iapply (wp_ld 𝒱 c bd E _)
  isplitl [H8]; · iexact H8
  iintro H8
  iapply (wp_st 𝒱 c bd E _)
  isplitl [H8]; · iexact H8
  iintro H8
  rw [put_st2]
  iapply Hk
  iexact H8

/-- The last point stores the two states side by side. -/
theorem wp_stl (Y : S64x1024.Idx → Elt F .f32) (p : FVec F S64x512 .f32 × FVec F S64x512 .f32) (Q : PUnit → sProp 𝕄) :
    iprop(own c arg7 Y ∗ (own c arg7 (cat p.1 p.2) -∗ Q ⟨⟩))
      ⊢ wp frame (wpE (defs₀ (F := F)) 𝒱 (c : Thread nD τ) bd) E (stl arg7 p) Q := by
  unfold stl
  iintro ⟨H8, Hk⟩
  rw [wp_bind]
  iapply (wp_ld 𝒱 c bd E _)
  isplitl [H8]; · iexact H8
  iintro H8
  rw [wp_bind]
  iapply (wp_st 𝒱 c bd E _)
  isplitl [H8]; · iexact H8
  iintro H8
  rw [wp_bind]
  iapply (wp_ld 𝒱 c bd E _)
  isplitl [H8]; · iexact H8
  iintro H8
  iapply (wp_st 𝒱 c bd E _)
  isplitl [H8]; · iexact H8
  iintro H8
  rw [put_cat]
  iapply Hk
  iexact H8

end Cert.KernelIdeal.Rec
-- ==== Proof.KernelIdealRing.lean ====
/- The ring of output tiles: four slots of two tiles each, filled at a grid point, sent to the output array, and waited
   for four points later. What a point finds and what it leaves, at the values it writes. -/
module

public import proofs.«01_k».proof.Proof.KernelIdealSteps
public import Idealize.ShloMosaic.Lib.Ring.WriteBehind

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx Idealize.ShloMosaic.Ring

variable {F : FTy → Type} [FloatOps F]

local notation "𝕄" => MT nD τ sig Unit (Elt F) ℕ UU ℕ

/-! ## Four slots opened at a step -/

section Four
variable {M : Type _} [URA M] {NB : ℕ} [NeZero NB]
variable (free : Fin 4 → sProp M) (infl : Fin 4 → Fin NB → sProp M) (ahead behind : Fin NB → sProp M)

theorem bigSep_fin4 (P : Fin 4 → sProp M) : bigSep Finset.univ P = iprop(P 0 ∗ P 1 ∗ P 2 ∗ P 3) :=
  bigSep_univ_eq_bigSepL [0, 1, 2, 3] (by decide) (by decide) P

/-- What a step leaves alone: the pieces ahead of it, the pieces landed, and the three other slots. -/
def restAt (t : ℕ) : sProp M :=
  iprop(bigSep (aheadSet (t + 1)) ahead ∗ bigSep (behindSet 4 t) behind
    ∗ roleB 4 free infl t 1 ∗ roleB 4 free infl t 2 ∗ roleB 4 free infl t 3)

theorem ring_open (t : ℕ) (ht : t < NB) :
    AtB 4 free infl ahead behind t ⊢ iprop(ahead (bk NB t) ∗ restAt free infl ahead behind t ∗ roleB 4 free infl t 0) := by
  unfold AtB restAt
  rw [aheadSet_open t ht, bigSep_put (bk_not_mem_aheadSet_succ t ht), bigSep_fin4]
  iintro ⟨⟨Ha, Hr⟩, Hb, H0, H1, H2, H3⟩
  isplitl [Ha]; · iexact Ha
  isplitr [H0]
  · isplitl [Hr]; · iexact Hr
    isplitl [Hb]; · iexact Hb
    isplitl [H1]; · iexact H1
    isplitl [H2]; · iexact H2
    iexact H3
  iexact H0

theorem role_next (t : ℕ) (j j' : Fin 4) (h : j'.val = j.val + 1) : roleB 4 free infl (t + 1) j = roleB 4 free infl t j' := by
  unfold roleB
  rw [show t + 1 + j.val = t + j'.val by omega]
  by_cases e : 4 ≤ t + j'.val
  · rw [if_pos ⟨e, by omega⟩, if_pos ⟨e, by omega⟩]
  · rw [if_neg (fun h => e h.1), if_neg (fun h => e h.1)]

theorem role_last (t : ℕ) : roleB 4 free infl (t + 1) 3 = infl (sl 4 t) (bk NB t) := by
  unfold roleB
  rw [if_pos (by simp)]
  rw [show t + 1 + (3 : Fin 4).val = t + 4 from rfl, sl_add]
  congr 1

theorem role_first (t : ℕ) (h : 4 ≤ t) : roleB 4 free infl t 0 = infl (sl 4 t) (bk NB (t - 4)) := by
  unfold roleB; rw [if_pos (by simp; omega)]; rfl

theorem role_first_free (t : ℕ) (h : t < 4) : roleB 4 free infl t 0 = free (sl 4 t) := by
  unfold roleB; rw [if_neg (by simp; omega)]; rfl

/-- After one of the first four steps: its slot is in flight. -/
theorem ring_boot (t : ℕ) (ht : t < 4) :
    iprop(restAt free infl ahead behind t ∗ infl (sl 4 t) (bk NB t)) ⊢ AtB 4 free infl ahead behind (t + 1) := by
  unfold AtB restAt
  rw [bigSep_fin4, role_last, role_next free infl t 0 1 rfl, role_next free infl t 1 2 rfl, role_next free infl t 2 3 rfl,
    behindSet_boot 4 t (by omega), behindSet_boot 4 (t + 1) (by omega)]
  iintro ⟨⟨Hr, Hb, H1, H2, H3⟩, H0⟩
  isplitl [Hr]; · iexact Hr
  isplitl [Hb]; · iexact Hb
  isplitl [H1]; · iexact H1
  isplitl [H2]; · iexact H2
  isplitl [H3]; · iexact H3
  iexact H0

/-- After a later step: the pieces it waited for have landed, and its slot is in flight again. -/
theorem ring_next (t : ℕ) (h4 : 4 ≤ t) (ht : t < NB) :
    iprop(restAt free infl ahead behind t ∗ behind (bk NB (t - 4)) ∗ infl (sl 4 t) (bk NB t)) ⊢ AtB 4 free infl ahead behind (t + 1) := by
  unfold AtB restAt
  rw [bigSep_fin4, role_last, role_next free infl t 0 1 rfl, role_next free infl t 1 2 rfl, role_next free infl t 2 3 rfl,
    behindSet_close 4 t h4 ht, bigSep_put (bk_not_mem_behindSet 4 t h4 ht)]
  iintro ⟨⟨Hr, Hb, H1, H2, H3⟩, Hn, H0⟩
  isplitl [Hr]; · iexact Hr
  isplitl [Hb Hn]
  · isplitl [Hn]; · iexact Hn
    iexact Hb
  isplitl [H1]; · iexact H1
  isplitl [H2]; · iexact H2
  isplitl [H3]; · iexact H3
  iexact H0

end Four

section Drain
variable {M : Type _} [URA M]
variable (free : Fin 4 → sProp M) (infl : Fin 4 → Fin 32 → sProp M) (ahead behind : Fin 32 → sProp M)

/-- Past the last step the four slots are in flight with the last four steps' pieces, -/
theorem ring_last :
    AtB 4 free infl ahead behind 32 ⊢ iprop(bigSep (behindSet 4 32) behind ∗ infl 0 28 ∗ infl 1 29 ∗ infl 2 30 ∗ infl 3 31) := by
  unfold AtB
  rw [bigSep_fin4, roleB_of_infl 4 free infl 32 0 (by decide), roleB_of_infl 4 free infl 32 1 (by decide),
    roleB_of_infl 4 free infl 32 2 (by decide), roleB_of_infl 4 free infl 32 3 (by decide),
    show sl 4 (32 + (0 : Fin 4).val) = 0 from by decide, show sl 4 (32 + (1 : Fin 4).val) = 1 from by decide,
    show sl 4 (32 + (2 : Fin 4).val) = 2 from by decide, show sl 4 (32 + (3 : Fin 4).val) = 3 from by decide,
    show bk 32 (32 + (0 : Fin 4).val - 4) = 28 from by decide, show bk 32 (32 + (1 : Fin 4).val - 4) = 29 from by decide,
    show bk 32 (32 + (2 : Fin 4).val - 4) = 30 from by decide, show bk 32 (32 + (3 : Fin 4).val - 4) = 31 from by decide]
  iintro ⟨-, Hb, H0, H1, H2, H3⟩
  isplitl [Hb]; · iexact Hb
  isplitl [H0]; · iexact H0
  isplitl [H1]; · iexact H1
  isplitl [H2]; · iexact H2
  iexact H3

/-- and once these have landed, every piece has. -/
theorem ring_drained :
    iprop(bigSep (behindSet 4 32) behind ∗ (behind 28 ∗ behind 29 ∗ behind 30 ∗ behind 31) ∗ free 0 ∗ free 1 ∗ free 2 ∗ free 3)
      ⊢ AtBEnd free behind := by
  unfold AtBEnd
  rw [show (Finset.univ : Finset (Fin 32)) = insert 28 (insert 29 (insert 30 (insert 31 (behindSet 4 32)))) from by decide,
    bigSep_put (by decide), bigSep_put (by decide), bigSep_put (by decide), bigSep_put (by decide), bigSep_fin4]
  iintro ⟨Hb, ⟨B0, B1, B2, B3⟩, H0, H1, H2, H3⟩
  isplitl [Hb B0 B1 B2 B3]
  · isplitl [B0]; · iexact B0
    isplitl [B1]; · iexact B1
    isplitl [B2]; · iexact B2
    isplitl [B3]; · iexact B3
    iexact Hb
  isplitl [H0]; · iexact H0
  isplitl [H1]; · iexact H1
  isplitl [H2]; · iexact H2
  iexact H3

end Drain

/-! ## The transfers -/

/-- The tile buffer and the output array, and grid point `u`'s coordinates. -/
abbrev obuf : Memref sig .tc .vmem S2x4x16x64x512 .f32 := Memref.whole cc1_scratch1
abbrev outA : Memref sig .tc .hbm S512x64x1024 .f32 := Memref.whole main_v31_0
abbrev co (u : Fin 32) : grid1.Coords := grid1.coords (Fin.cast N_1.symm u)

abbrev tl' (d : ℕ) (hd : d < 2) (s : Fin 4) : Memref sig .tc .vmem S16x64x512 .f32 := tile obuf d hd s.val s.isLt
abbrev cl' (d : ℕ) (hd : d < 2) (s : Fin 4) : DmaSem sig := cell cc1_scratch2 d hd s.val s.isLt

variable (𝒱 : Variants) (c : Dev nD) (bd : Option 𝒱.V)

/-- A tile's transfer in flight, to deliver part `out` of the output at `Z` and the tile. -/
def fly (d : ℕ) (hd : d < 2) (s : Fin 4) (out : Memref sig .tc .hbm S16x64x512 .f32) (Z : S16x64x512.Idx → Elt F .f32) : sProp 𝕄 :=
  Transfers.Flight (countersEmb (U := UU)) (c : Thread nD τ) (.dma (cl' d hd s)) () (tl' d hd s).view.dmaCredit
    iprop(own c out Z ∗ ownE (F := F) c (tl' d hd s))

/-- Sending a tile puts its transfer in flight. -/
theorem wp_send (d : ℕ) (hd : d < 2) (s : Fin 4) (out : Memref sig .tc .hbm S16x64x512 .f32) (hcr : out.view.dmaCredit = (tl' d hd s).view.dmaCredit)
    (Z : S16x64x512.Idx → Elt F .f32) (Q : PUnit → sProp 𝕄) :
    iprop(own c (tl' d hd s) Z ∗ ownE (F := F) c out ∗ semVal ((c : Thread nD τ), .dma (cl' d hd s)) 0 ∗ (fly c d hd s out Z -∗ Q ⟨⟩))
      ⊢ wp frame (wpE (defs₀ (F := F)) 𝒱 (c : Thread nD τ) bd) Set.univ (send obuf cc1_scratch2 d hd s.val s.isLt out) Q := by
  unfold send
  iintro ⟨HT, HO, Hs, Hk⟩
  icases HO with ⟨%X, HO⟩
  ihave HT := own_elim c _ Z $$ HT
  icases HT with ⟨%f, %hf, HT⟩
  ihave HO := own_elim c _ X $$ HO
  icases HO with ⟨%g, %hg, HO⟩
  iapply (Transfers.wp_dmaLocal (countersEmb (U := UU)) 𝒱 (c : Thread nD τ) bd (dst := out) (sm := .dma (cl' d hd s)) () (tl' d hd s).view.dmaCredit hcr
    (View.dmaCredit_pos _ (by decide)) (Finset.Subset.refl _)) $$ [HT HO Hs]
  · isplitl [HT]; · iexact HT
    isplitl [HO]; · iexact HO
    iexact Hs
  iintro HF
  iapply (wp_ret_of 𝒱 c bd Set.univ ⟨⟩ Q)
  iapply Hk
  unfold fly
  iapply (Transfers.Flight_mono (countersEmb (U := UU)) (c : Thread nD τ) ?_) $$ HF
  iintro ⟨HO, HT⟩
  isplitl [HO]
  · iapply (own_intro c out Z _ ?_) $$ HO
    rw [View.read_write_univ]
    exact hf
  · iexists Z
    iapply (own_intro c _ Z f hf) $$ HT

/-- Waiting for a tile's transfer gives the part of the output and the tile back. -/
theorem wp_waitTile (d : ℕ) (hd : d < 2) (s : Fin 4) (out : Memref sig .tc .hbm S16x64x512 .f32) (Z : S16x64x512.Idx → Elt F .f32)
    (Q : PUnit → sProp 𝕄) :
    iprop(fly c d hd s out Z ∗ (∃ W, owes (c : Thread nD τ) (0 : CellTallies nD τ sig Unit) W)
        ∗ (own c out Z ∗ ownE (F := F) c (tl' d hd s) ∗ semVal ((c : Thread nD τ), .dma (cl' d hd s)) 0
            ∗ (∃ W, owes (c : Thread nD τ) (0 : CellTallies nD τ sig Unit) W) -∗ Q ⟨⟩))
      ⊢ wp frame (wpE (defs₀ (F := F)) 𝒱 (c : Thread nD τ) bd) Set.univ (waitTile obuf cc1_scratch2 d hd s.val s.isLt) Q := by
  unfold waitTile fly
  iintro ⟨HF, ⟨%W, HW⟩, Hk⟩
  iapply (Transfers.wp_waitLocal (countersEmb (U := UU)) 𝒱 (c : Thread nD τ) bd () (N := (tl' d hd s).view.dmaCredit) rfl) $$ [HF HW]
  · isplitl [HF]; · iexact HF
    iexact HW
  iintro ⟨⟨HO, HT⟩, Hs, HW⟩
  iapply (wp_ret_of 𝒱 c bd Set.univ ⟨⟩ Q)
  iapply Hk
  isplitl [HO]; · iexact HO
  isplitl [HT]; · iexact HT
  isplitl [Hs]; · iexact Hs
  iexists _
  iexact HW

end Cert.KernelIdeal.Rec
-- ==== Proof.KernelIdealPoint.lean ====
/- One grid point of the recurrent call: from the input blocks, the states before it and the ring before it, to the
   states after it and the ring after it. -/
module

public import proofs.«01_k».proof.Proof.KernelIdealRing

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx Idealize.ShloMosaic.Ring

variable {F : FTy → Type} [FloatOps F]

local notation "𝕄" => MT nD τ sig Unit (Elt F) ℕ UU ℕ

/-! ## What a grid point's coordinates decide -/

theorem cond1_iff : ∀ t : Fin 32, cond1 (co t) = 1#1 ↔ t.val = 0 := by decide +kernel
theorem cond2_iff : ∀ t : Fin 32, k1_cond2 (co t) = 1#1 ↔ 4 ≤ t.val := by decide +kernel
theorem cond3_iff : ∀ t : Fin 32, k1_cond3 (co t) = 1#1 ↔ t.val = 31 := by decide +kernel
theorem slot_eq : ∀ t : Fin 32, (⟨slot (co t), slot_lt (co t)⟩ : Fin 4) = sl 4 t.val := by decide +kernel

/-! ## The states, and the ring's families -/

variable (X1 X2 : Fin 32 → S3x16x64x512.Idx → Elt F .bf16) (W3 : S2x512x1024.Idx → Elt F .bf16) (W4 : S2x512x512.Idx → Elt F .bf16)
  (X5 : S64x1024.Idx → Elt F .f32)

/-- The two states before grid point `p`. -/
def hAt : ℕ → FVec F S64x512 .f32 × FVec F S64x512 .f32
  | 0 => (lanes X5 0, lanes X5 1)
  | p + 1 => (runF (X1 (bk 32 p)) W3 W4 (hAt p).1 16, runB (X2 (bk 32 p)) W3 W4 (hAt p).2 16)

/-- The two tiles of grid point `u`. -/
def outFv (u : Fin 32) : S16x64x512.Idx → Elt F .f32 := tileF (X1 u) W3 W4 (hAt X1 X2 W3 W4 X5 u.val).1
def outBv (u : Fin 32) : S16x64x512.Idx → Elt F .f32 := tileB (X2 u) W3 W4 (hAt X1 X2 W3 W4 X5 u.val).2

variable (c : Dev nD)

/-- A slot's two tiles at anything, its two semaphores at zero. -/
def freeS (s : Fin 4) : sProp 𝕄 :=
  iprop((ownE (F := F) c (tl' 0 (by decide) s) ∗ ownE (F := F) c (tl' 1 (by decide) s))
    ∗ semVal ((c : Thread nD τ), .dma (cl' 0 (by decide) s)) 0 ∗ semVal ((c : Thread nD τ), .dma (cl' 1 (by decide) s)) 0)

/-- A slot's two transfers in flight with grid point `u`'s tiles. -/
def inflS (s : Fin 4) (u : Fin 32) : sProp 𝕄 :=
  iprop(fly c 0 (by decide) s (outF (co u) outA) (outFv X1 X2 W3 W4 X5 u) ∗ fly c 1 (by decide) s (outB (co u) outA) (outBv X1 X2 W3 W4 X5 u))

/-- Grid point `u`'s two parts of the output, at anything. -/
def aheadS (u : Fin 32) : sProp 𝕄 := iprop(ownE (F := F) c (outF (co u) outA) ∗ ownE (F := F) c (outB (co u) outA))

/-- The same parts at grid point `u`'s tiles. -/
def behindS (u : Fin 32) : sProp 𝕄 :=
  iprop(own c (outF (co u) outA) (outFv X1 X2 W3 W4 X5 u) ∗ own c (outB (co u) outA) (outBv X1 X2 W3 W4 X5 u))

/-- The ring before step `p` (past the last: drained). -/
abbrev ringΦ (p : ℕ) : sProp 𝕄 :=
  AtBΦ 4 (freeS (F := F) c) (inflS X1 X2 W3 W4 X5 c) (aheadS (F := F) c) (behindS X1 X2 W3 W4 X5 c) p
abbrev ringAt (p : ℕ) : sProp 𝕄 :=
  AtB 4 (freeS (F := F) c) (inflS X1 X2 W3 W4 X5 c) (aheadS (F := F) c) (behindS X1 X2 W3 W4 X5 c) p

/-- The scratch of the two states before step `p`: anything before the first. -/
def hst (arg8 : Memref sig .tc .vmem S2x64x512 .f32) (p : ℕ) : sProp 𝕄 :=
  if p = 0 then ownE (F := F) c arg8 else own c arg8 (st2 (hAt X1 X2 W3 W4 X5 p).1 (hAt X1 X2 W3 W4 X5 p).2)

abbrev owesE : sProp 𝕄 := iprop(∃ W, owes (c : Thread nD τ) (0 : CellTallies nD τ sig Unit) W)

variable (𝒱 : Variants) (bd : Option 𝒱.V)

/-- The first part of the body leaves the states before the point in the scratch. -/
theorem wp_pro1 (arg5 : Memref sig .tc .vmem S64x1024 .f32) (arg8 : Memref sig .tc .vmem S2x64x512 .f32) (t : Fin 32) (Q : PUnit → sProp 𝕄) :
    iprop(own c arg5 X5 ∗ hst X1 X2 W3 W4 X5 c arg8 t.val
        ∗ (own c arg5 X5 ∗ own c arg8 (st2 (hAt X1 X2 W3 W4 X5 t.val).1 (hAt X1 X2 W3 W4 X5 t.val).2) -∗ Q ⟨⟩))
      ⊢ wp frame (wpE (defs₀ (F := F)) 𝒱 (c : Thread nD τ) bd) Set.univ (pro1 (co t) arg5 arg8) Q := by
  unfold pro1 hst
  by_cases h : t.val = 0
  · rw [if_pos ((cond1_iff t).mpr h), if_pos h, h]
    iintro ⟨H5, ⟨%Y, H8⟩, Hk⟩
    iapply (wp_pro1A 𝒱 c bd Set.univ arg5 arg8 X5 Y)
    isplitl [H5]; · iexact H5
    isplitl [H8]; · iexact H8
    iexact Hk
  · rw [if_neg (fun e => h ((cond1_iff t).mp e)), if_neg h]
    iintro ⟨H5, H8, Hk⟩
    iapply (wp_ret_of 𝒱 c bd Set.univ ⟨⟩ Q)
    iapply Hk
    isplitl [H5]; · iexact H5
    iexact H8

/-- The parts of the output landed by the waits of step `t`. -/
def landed (t : ℕ) : sProp 𝕄 := if 4 ≤ t then behindS X1 X2 W3 W4 X5 c (bk 32 (t - 4)) else iprop(True)

/-- A slot's waits give its parts of the output and the slot back. -/
theorem wp_wait2 (s : Fin 4) (u : Fin 32) (Q : PUnit → sProp 𝕄) :
    iprop(inflS X1 X2 W3 W4 X5 c s u ∗ owesE (F := F) c ∗ (behindS X1 X2 W3 W4 X5 c u ∗ freeS (F := F) c s ∗ owesE (F := F) c -∗ Q ⟨⟩))
      ⊢ wp frame (wpE (defs₀ (F := F)) 𝒱 (c : Thread nD τ) bd) Set.univ
          (waitTile obuf cc1_scratch2 0 (by decide) s.val s.isLt >>= fun _ => waitTile obuf cc1_scratch2 1 (by decide) s.val s.isLt) Q := by
  unfold inflS behindS freeS
  iintro ⟨⟨H0, H1⟩, HW, Hk⟩
  rw [wp_bind]
  iapply (wp_waitTile 𝒱 c bd 0 _ s _ _)
  isplitl [H0]; · iexact H0
  isplitl [HW]; · iexact HW
  iintro ⟨HO0, HT0, HS0, HW⟩
  iapply (wp_waitTile 𝒱 c bd 1 _ s _ _)
  isplitl [H1]; · iexact H1
  isplitl [HW]; · iexact HW
  iintro ⟨HO1, HT1, HS1, HW⟩
  iapply Hk
  isplitl [HO0 HO1]
  · isplitl [HO0]; · iexact HO0
    iexact HO1
  isplitr [HW]
  · isplitl [HT0 HT1]
    · isplitl [HT0]; · iexact HT0
      iexact HT1
    isplitl [HS0]; · iexact HS0
    iexact HS1
  iexact HW

/-- The second part of the body frees the point's slot. -/
theorem wp_pro2 (t : Fin 32) (Q : PUnit → sProp 𝕄) :
    iprop(roleB 4 (freeS (F := F) c) (inflS X1 X2 W3 W4 X5 c) t.val 0 ∗ owesE (F := F) c
        ∗ (landed X1 X2 W3 W4 X5 c t.val ∗ freeS (F := F) c ⟨slot (co t), slot_lt (co t)⟩ ∗ owesE (F := F) c -∗ Q ⟨⟩))
      ⊢ wp frame (wpE (defs₀ (F := F)) 𝒱 (c : Thread nD τ) bd) Set.univ (pro2 (co t) obuf cc1_scratch2) Q := by
  unfold pro2 landed
  by_cases h : 4 ≤ t.val
  · rw [if_pos ((cond2_iff t).mpr h), if_pos h, role_first _ _ t.val h, ← slot_eq t]
    show _ ⊢ wp frame (wpE (defs₀ (F := F)) 𝒱 (c : Thread nD τ) bd) Set.univ
      (waitTile obuf cc1_scratch2 0 (by decide) (⟨slot (co t), slot_lt (co t)⟩ : Fin 4).val (slot_lt (co t)) >>= fun _ =>
        waitTile obuf cc1_scratch2 1 (by decide) (⟨slot (co t), slot_lt (co t)⟩ : Fin 4).val (slot_lt (co t))) Q
    exact wp_wait2 X1 X2 W3 W4 X5 c 𝒱 bd _ _ Q
  · rw [if_neg (fun e => h ((cond2_iff t).mp e)), if_neg h, role_first_free _ _ t.val (by omega), ← slot_eq t]
    iintro ⟨H, HW, Hk⟩
    iapply (wp_ret_of 𝒱 c bd Set.univ ⟨⟩ Q)
    iapply Hk
    isplitr; · ipureintro; trivial
    isplitl [H]; · iexact H
    iexact HW

/-- The ring after a step, whether or not it waited. -/
theorem ring_step (t : Fin 32) :
    iprop(restAt (freeS (F := F) c) (inflS X1 X2 W3 W4 X5 c) (aheadS (F := F) c) (behindS X1 X2 W3 W4 X5 c) t.val
        ∗ landed X1 X2 W3 W4 X5 c t.val ∗ inflS X1 X2 W3 W4 X5 c ⟨slot (co t), slot_lt (co t)⟩ t)
      ⊢ ringAt X1 X2 W3 W4 X5 c (t.val + 1) := by
  have hb : bk 32 t.val = t := Fin.ext (bk_val t.isLt)
  unfold landed
  rw [slot_eq t]
  by_cases h : 4 ≤ t.val
  · rw [if_pos h]
    have := ring_next (freeS (F := F) c) (inflS X1 X2 W3 W4 X5 c) (aheadS (F := F) c) (behindS X1 X2 W3 W4 X5 c) t.val h t.isLt
    rw [hb] at this
    exact this
  · rw [if_neg h]
    have := ring_boot (freeS (F := F) c) (inflS X1 X2 W3 W4 X5 c) (aheadS (F := F) c) (behindS X1 X2 W3 W4 X5 c) t.val (by omega)
    rw [hb] at this
    iintro ⟨HR, -, HI⟩
    iapply this
    isplitl [HR]; · iexact HR
    iexact HI

/-- What the second result's buffer holds after point `t`. -/
def lastOut (t : ℕ) (Y : S64x1024.Idx → Elt F .f32) : S64x1024.Idx → Elt F .f32 :=
  if t = 31 then cat (hAt X1 X2 W3 W4 X5 32).1 (hAt X1 X2 W3 W4 X5 32).2 else Y

/-- The last point stores the last states and drains the ring; the others do nothing more. -/
theorem wp_epi (arg7 : Memref sig .tc .vmem S64x1024 .f32) (t : Fin 32) (Y : S64x1024.Idx → Elt F .f32) (Q : PUnit → sProp 𝕄) :
    iprop(own c arg7 Y ∗ ringAt X1 X2 W3 W4 X5 c (t.val + 1) ∗ owesE (F := F) c
        ∗ (own c arg7 (lastOut X1 X2 W3 W4 X5 t.val Y) ∗ ringΦ X1 X2 W3 W4 X5 c (t.val + 1) ∗ owesE (F := F) c -∗ Q ⟨⟩))
      ⊢ wp frame (wpE (defs₀ (F := F)) 𝒱 (c : Thread nD τ) bd) Set.univ
          (epi (co t) arg7 obuf cc1_scratch2 (hAt X1 X2 W3 W4 X5 (t.val + 1))) Q := by
  unfold epi lastOut
  by_cases h : t.val = 31
  · rw [dif_pos ((cond3_iff t).mpr h), if_pos h, h, ringΦ, AtBΦ_end _ _ _ _ _ (31 + 1) rfl]
    iintro ⟨H7, HR, HW, Hk⟩
    rw [wp_bind]
    iapply (wp_stl 𝒱 c bd Set.univ arg7 Y)
    isplitl [H7]; · iexact H7
    iintro H7
    ihave HR := ring_last _ _ _ _ $$ HR
    unfold inflS
    icases HR with ⟨HB, ⟨A0, B0⟩, ⟨A1, B1⟩, ⟨A2, B2⟩, ⟨A3, B3⟩⟩
    rw [wp_bind]
    iapply (wp_waitTile 𝒱 c bd 0 (by decide) 0 _ _)
    isplitl [A0]; · iexact A0
    isplitl [HW]; · iexact HW
    iintro ⟨PA0, TA0, SA0, HW⟩
    rw [wp_bind]
    iapply (wp_waitTile 𝒱 c bd 0 (by decide) 1 _ _)
    isplitl [A1]; · iexact A1
    isplitl [HW]; · iexact HW
    iintro ⟨PA1, TA1, SA1, HW⟩
    rw [wp_bind]
    iapply (wp_waitTile 𝒱 c bd 0 (by decide) 2 _ _)
    isplitl [A2]; · iexact A2
    isplitl [HW]; · iexact HW
    iintro ⟨PA2, TA2, SA2, HW⟩
    rw [wp_bind]
    iapply (wp_waitTile 𝒱 c bd 0 (by decide) 3 _ _)
    isplitl [A3]; · iexact A3
    isplitl [HW]; · iexact HW
    iintro ⟨PA3, TA3, SA3, HW⟩
    rw [wp_bind]
    iapply (wp_waitTile 𝒱 c bd 1 (by decide) 0 _ _)
    isplitl [B0]; · iexact B0
    isplitl [HW]; · iexact HW
    iintro ⟨PB0, TB0, SB0, HW⟩
    rw [wp_bind]
    iapply (wp_waitTile 𝒱 c bd 1 (by decide) 1 _ _)
    isplitl [B1]; · iexact B1
    isplitl [HW]; · iexact HW
    iintro ⟨PB1, TB1, SB1, HW⟩
    rw [wp_bind]
    iapply (wp_waitTile 𝒱 c bd 1 (by decide) 2 _ _)
    isplitl [B2]; · iexact B2
    isplitl [HW]; · iexact HW
    iintro ⟨PB2, TB2, SB2, HW⟩
    rw [wp_bind]
    iapply (wp_waitTile 𝒱 c bd 1 (by decide) 3 _ _)
    isplitl [B3]; · iexact B3
    isplitl [HW]; · iexact HW
    iintro ⟨PB3, TB3, SB3, HW⟩
    iapply (wp_ret_of 𝒱 c bd Set.univ ⟨⟩ Q)
    iapply Hk
    isplitl [H7]; · iexact H7
    isplitr [HW]; swap; · iexact HW
    iapply (ring_drained _ _)
    unfold behindS freeS
    isplitl [HB]; · iexact HB
    isplitl [PA0 PB0 PA1 PB1 PA2 PB2 PA3 PB3]
    · isplitl [PA0 PB0]
      · isplitl [PA0]; · iexact PA0
        iexact PB0
      isplitl [PA1 PB1]
      · isplitl [PA1]; · iexact PA1
        iexact PB1
      isplitl [PA2 PB2]
      · isplitl [PA2]; · iexact PA2
        iexact PB2
      isplitl [PA3]; · iexact PA3
      iexact PB3
    isplitl [TA0 TB0 SA0 SB0]
    · isplitl [TA0 TB0]
      · isplitl [TA0]; · iexact TA0
        iexact TB0
      isplitl [SA0]; · iexact SA0
      iexact SB0
    isplitl [TA1 TB1 SA1 SB1]
    · isplitl [TA1 TB1]
      · isplitl [TA1]; · iexact TA1
        iexact TB1
      isplitl [SA1]; · iexact SA1
      iexact SB1
    isplitl [TA2 TB2 SA2 SB2]
    · isplitl [TA2 TB2]
      · isplitl [TA2]; · iexact TA2
        iexact TB2
      isplitl [SA2]; · iexact SA2
      iexact SB2
    isplitl [TA3 TB3]
    · isplitl [TA3]; · iexact TA3
      iexact TB3
    isplitl [SA3]; · iexact SA3
    iexact SB3
  · rw [dif_neg (fun e => h ((cond3_iff t).mp e)), if_neg h, ringΦ, AtBΦ_lt _ _ _ _ _ (t.val + 1) (by omega)]
    iintro ⟨H7, HR, HW, Hk⟩
    iapply (wp_ret_of 𝒱 c bd Set.univ ⟨⟩ Q)
    iapply Hk
    isplitl [H7]; · iexact H7
    isplitl [HR]; · iexact HR
    iexact HW

/-- THE WHOLE BODY at grid point `t`. -/
theorem wp_point (arg1 : Memref sig .tc .vmem S3x16x64x512 .bf16) (arg2 : Memref sig .tc .vmem S3x16x64x512 .bf16)
    (arg3 : Memref sig .tc .vmem S2x512x1024 .bf16) (arg4 : Memref sig .tc .vmem S2x512x512 .bf16) (arg5 : Memref sig .tc .vmem S64x1024 .f32)
    (arg7 : Memref sig .tc .vmem S64x1024 .f32) (arg8 : Memref sig .tc .vmem S2x64x512 .f32) (t : Fin 32)
    (Y : S64x1024.Idx → Elt F .f32) (Q : PUnit → sProp 𝕄) :
    iprop(ins c arg1 arg2 arg3 arg4 (X1 t) (X2 t) W3 W4 ∗ own c arg5 X5 ∗ own c arg7 Y ∗ hst X1 X2 W3 W4 X5 c arg8 t.val
        ∗ ringΦ X1 X2 W3 W4 X5 c t.val ∗ owesE (F := F) c
        ∗ (ins c arg1 arg2 arg3 arg4 (X1 t) (X2 t) W3 W4 ∗ own c arg5 X5 ∗ own c arg7 (lastOut X1 X2 W3 W4 X5 t.val Y)
            ∗ hst X1 X2 W3 W4 X5 c arg8 (t.val + 1) ∗ ringΦ X1 X2 W3 W4 X5 c (t.val + 1) ∗ owesE (F := F) c -∗ Q ⟨⟩))
      ⊢ wp frame (wpE (defs₀ (F := F)) 𝒱 (c : Thread nD τ) bd) Set.univ
          (pro1 (co t) arg5 arg8 >>= fun _ => pro2 (co t) obuf cc1_scratch2 >>= fun _ =>
            mid (co t) arg1 arg2 arg3 arg4 outA arg7 arg8 obuf cc1_scratch2) Q := by
  have hb : bk 32 t.val = t := Fin.ext (bk_val t.isLt)
  rw [ringΦ, AtBΦ_lt _ _ _ _ _ t.val t.isLt]
  iintro ⟨HI, H5, H7, H8, HR, HW, Hk⟩
  ihave HR := ring_open _ _ _ _ t.val t.isLt $$ HR
  rw [hb]
  icases HR with ⟨HA, HR, H0⟩
  rw [wp_bind]
  iapply (wp_pro1 X1 X2 W3 W4 X5 c 𝒱 bd arg5 arg8 t)
  isplitl [H5]; · iexact H5
  isplitl [H8]; · iexact H8
  iintro ⟨H5, H8⟩
  rw [wp_bind]
  iapply (wp_pro2 X1 X2 W3 W4 X5 c 𝒱 bd t)
  isplitl [H0]; · iexact H0
  isplitl [HW]; · iexact HW
  iintro ⟨HL, HF, HW⟩
  unfold mid
  rw [wp_bind]
  iapply (wp_ldh 𝒱 c bd Set.univ arg8 _ _)
  isplitl [H8]; · iexact H8
  iintro H8
  unfold freeS aheadS
  icases HF with ⟨⟨⟨%Z0, T0⟩, ⟨%Z1, T1⟩⟩, S0, S1⟩
  icases HA with ⟨A0, A1⟩
  rw [wp_bind]
  iapply (wp_steps 𝒱 c bd Set.univ (co t) arg1 arg2 arg3 arg4 obuf (X1 t) (X2 t) W3 W4 _ _ Z0 Z1)
  isplitl [HI]; · iexact HI
  isplitl [T0]; · iexact T0
  isplitl [T1]; · iexact T1
  iintro ⟨HI, T0, T1⟩
  rw [wp_bind]
  iapply (wp_sth 𝒱 c bd Set.univ arg8 _ _)
  isplitl [H8]; · iexact H8
  iintro H8
  rw [wp_bind]
  iapply (wp_send 𝒱 c bd 0 _ ⟨slot (co t), slot_lt (co t)⟩ (outF (co t) outA) rfl _)
  isplitl [T0]; · iexact T0
  isplitl [A0]; · iexact A0
  isplitl [S0]; · iexact S0
  iintro F0
  rw [wp_bind]
  iapply (wp_send 𝒱 c bd 1 _ ⟨slot (co t), slot_lt (co t)⟩ (outB (co t) outA) rfl _)
  isplitl [T1]; · iexact T1
  isplitl [A1]; · iexact A1
  isplitl [S1]; · iexact S1
  iintro F1
  ihave HR := (ring_step X1 X2 W3 W4 X5 c t) $$ [HR HL F0 F1]
  · isplitl [HR]; · iexact HR
    isplitl [HL]; · iexact HL
    unfold inflS
    isplitl [F0]; · iexact F0
    iexact F1
  rw [show (runF (X1 t) W3 W4 (hAt X1 X2 W3 W4 X5 t.val).1 16, runB (X2 t) W3 W4 (hAt X1 X2 W3 W4 X5 t.val).2 16)
    = hAt X1 X2 W3 W4 X5 (t.val + 1) from by rw [hAt, hb]]
  iapply (wp_epi X1 X2 W3 W4 X5 c 𝒱 bd arg7 t Y)
  isplitl [H7]; · iexact H7
  isplitl [HR]; · iexact HR
  isplitl [HW]; · iexact HW
  iintro ⟨H7, HR, HW⟩
  iapply Hk
  isplitl [HI]; · iexact HI
  isplitl [H5]; · iexact H5
  isplitl [H7]; · iexact H7
  isplitl [H8]
  · unfold hst
    rw [if_neg (Nat.succ_ne_zero _)]
    iexact H8
  isplitl [HR]; · iexact HR
  iexact HW

end Cert.KernelIdeal.Rec
-- ==== Proof.KernelIdealPieces.lean ====
/- The output array of the recurrent call cut into the parts its transfers write, and the tile buffer cut into its tiles. -/
module

public import proofs.«01_k».proof.Proof.KernelIdealPoint

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx Idealize.ShloMosaic.Ring

variable {F : FTy → Type} [FloatOps F]

local notation "𝕄" => MT nD τ sig Unit (Elt F) ℕ UU ℕ

/-! ## The output's parts -/

/-- Where a part begins: the forward tile of a grid point on the left, its backward tile on the right. -/
def pOff : Fin 32 ⊕ Fin 32 → Fin 3 → ℕ
  | .inl u => k1_off38 (co u)
  | .inr u => k1_off41 (co u)

theorem pInb : ∀ (t : Fin 32 ⊕ Fin 32) (a : Fin 3), pOff t a + S16x64x512.size a ≤ S512x64x1024.size a
  | .inl u => k1_off38_inb (co u)
  | .inr u => k1_off41_inb (co u)

/-- The same counted in parts. -/
def pK : Fin 32 ⊕ Fin 32 → Fin 3 → ℕ
  | .inl u => ![u.val, 0, 0]
  | .inr u => ![31 - u.val, 0, 1]

theorem offF_eq : ∀ (u : Fin 32) (a : Fin 3), k1_off38 (co u) a = pK (.inl u) a * S16x64x512.size a := by decide +kernel
theorem offB_eq : ∀ (u : Fin 32) (a : Fin 3), k1_off41 (co u) a = pK (.inr u) a * S16x64x512.size a := by decide +kernel

theorem pOff_eq : ∀ (t : Fin 32 ⊕ Fin 32) (a : Fin 3), pOff t a = pK t a * S16x64x512.size a
  | .inl u, a => offF_eq u a
  | .inr u, a => offB_eq u a

/-- The part at given counts. -/
def pUn (k : Fin 3 → ℕ) : Fin 32 ⊕ Fin 32 := if k 2 = 0 then .inl (bk 32 (k 0)) else .inr (bk 32 (31 - k 0))

theorem pUn_pK : ∀ t : Fin 32 ⊕ Fin 32, pUn (pK t) = t := by decide +kernel

theorem pOnto : ∀ (j0 : Fin 32) (j1 : Fin 1) (j2 : Fin 2), ∃ t : Fin 32 ⊕ Fin 32, ∀ a : Fin 3, pK t a = (![j0.val, j1.val, j2.val] : Fin 3 → ℕ) a := by
  decide +kernel

theorem pIn : ∀ (t : Fin 32 ⊕ Fin 32) (a : Fin 3), pK t a < (![32, 1, 2] : Fin 3 → ℕ) a := by decide +kernel

abbrev pR (t : Fin 32 ⊕ Fin 32) : Rect S512x64x1024 := Rect.unit (s := S512x64x1024) (pOff t) S16x64x512.size (pInb t)

theorem pDisj (t t' : Fin 32 ⊕ Fin 32) (h : t ≠ t') : Disjoint (pR t).set (pR t').set :=
  boxes_disjoint (s := S512x64x1024) S16x64x512.size pOff pInb pK pOff_eq pUn pUn_pK t t' h

theorem pCov : (Finset.univ : Finset (Fin 32 ⊕ Fin 32)).biUnion (fun t => (pR t).set) = Finset.univ := by
  rw [boxes_cover_grid (s := S512x64x1024) S16x64x512.size pOff pInb (fun _ => 0) S512x64x1024.size (fun a => by simp) pK pOff_eq
    ![32, 1, 2] (by decide) (fun _ => 0) (fun _ => by simp)
    (fun j => by
      obtain ⟨t, ht⟩ := pOnto (j 0) (j 1) (j 2)
      refine ⟨t, fun a => (ht a).trans ?_⟩
      fin_cases a <;> simp)
    (fun t a => ⟨Nat.zero_le _, by simpa using pIn t a⟩)]
  ext x
  simp only [Rect.mem_set_unit, Finset.mem_univ, iff_true]
  intro a
  exact ⟨Nat.zero_le _, by simpa using (x a).isLt⟩

variable (c : Dev nD)

/-- The whole array is the parts of all grid points. -/
theorem out_split (X : S512x64x1024.Idx → Elt F .f32) : own c outA X ⊢ bigSep Finset.univ (aheadS (F := F) c) := by
  refine (owns_rects (c : Thread nD τ) outA fullShare pR (fun _ _ => rfl) pDisj pCov X).trans ?_
  rw [bigSep_univ_sum]
  unfold aheadS
  rw [bigSep_sep']
  refine BIClass.sep_mono (bigSep_mono fun u _ => show (_ : sProp 𝕄) ⊢ _ from ?_) (bigSep_mono fun u _ => show (_ : sProp 𝕄) ⊢ _ from ?_)
  · iintro H; iexists _; iexact H
  · iintro H; iexists _; iexact H

variable (X1 X2 : Fin 32 → S3x16x64x512.Idx → Elt F .bf16) (W3 : S2x512x1024.Idx → Elt F .bf16) (W4 : S2x512x512.Idx → Elt F .bf16)
  (X5 : S64x1024.Idx → Elt F .f32)

/-- The array the call leaves: row `r`'s left half out of the forward tiles, its right half out of the backward ones. -/
def outV : S512x64x1024.Idx → Elt F .f32 := fun i =>
  if h : (i 2).val < 512 then
    outFv X1 X2 W3 W4 X5 (bk 32 ((i 0).val / 16)) (ix3 (⟨(i 0).val % 16, Nat.mod_lt _ (by decide)⟩ : Fin 16) (i 1 : Fin 64) (⟨(i 2).val, h⟩ : Fin 512))
  else
    outBv X1 X2 W3 W4 X5 (bk 32 (31 - (i 0).val / 16)) (ix3 (⟨(i 0).val % 16, Nat.mod_lt _ (by decide)⟩ : Fin 16) (i 1 : Fin 64)
      (⟨(i 2).val - 512, by have : (i 2).val < 1024 := (i 2).isLt; omega⟩ : Fin 512))

theorem outV_F (u : Fin 32) : (fun j => outV X1 X2 W3 W4 X5 ((pR (.inl u)).emb j)) = outFv X1 X2 W3 W4 X5 u := by
  funext j
  obtain ⟨x, y, z, rfl⟩ : ∃ (x : Fin 16) (y : Fin 64) (z : Fin 512), j = ix3 x y z := ⟨j 0, j 1, j 2, eq_ix3 j⟩
  have e (a : Fin 3) : ((pR (.inl u)).emb (ix3 x y z) a).val = pK (.inl u) a * S16x64x512.size a + ((ix3 x y z : S16x64x512.Idx) a).val :=
    (emb_unit_val (sh := S512x64x1024) _ _ _ _ _).trans (by rw [pOff_eq])
  have e0 : ((pR (.inl u)).emb (ix3 x y z) 0).val = u.val * 16 + x.val := e 0
  have e1 : ((pR (.inl u)).emb (ix3 x y z) 1).val = y.val := (e 1).trans (by show 0 * 64 + y.val = _; omega)
  have e2 : ((pR (.inl u)).emb (ix3 x y z) 2).val = z.val := (e 2).trans (by show 0 * 512 + z.val = _; omega)
  have hx := x.isLt
  have hz := z.isLt
  unfold outV
  rw [dif_pos (by rw [e2]; exact hz)]
  refine congr (congrArg _ (Fin.ext ?_)) ?_
  · show (_ / 16) % 32 = _; rw [e0]; have := u.isLt; omega
  · funext a
    apply Fin.ext
    fin_cases a
    · show _ % 16 = x.val; rw [e0]; omega
    · exact e1
    · exact e2

theorem outV_B (u : Fin 32) : (fun j => outV X1 X2 W3 W4 X5 ((pR (.inr u)).emb j)) = outBv X1 X2 W3 W4 X5 u := by
  funext j
  obtain ⟨x, y, z, rfl⟩ : ∃ (x : Fin 16) (y : Fin 64) (z : Fin 512), j = ix3 x y z := ⟨j 0, j 1, j 2, eq_ix3 j⟩
  have e (a : Fin 3) : ((pR (.inr u)).emb (ix3 x y z) a).val = pK (.inr u) a * S16x64x512.size a + ((ix3 x y z : S16x64x512.Idx) a).val :=
    (emb_unit_val (sh := S512x64x1024) _ _ _ _ _).trans (by rw [pOff_eq])
  have e0 : ((pR (.inr u)).emb (ix3 x y z) 0).val = (31 - u.val) * 16 + x.val := e 0
  have e1 : ((pR (.inr u)).emb (ix3 x y z) 1).val = y.val := (e 1).trans (by show 0 * 64 + y.val = _; omega)
  have e2 : ((pR (.inr u)).emb (ix3 x y z) 2).val = 512 + z.val := (e 2).trans (by show 1 * 512 + z.val = _; omega)
  have hx := x.isLt
  have hz := z.isLt
  unfold outV
  rw [dif_neg (by rw [e2]; omega)]
  refine congr (congrArg _ (Fin.ext ?_)) ?_
  · show (31 - _ / 16) % 32 = _; rw [e0]; have := u.isLt; omega
  · funext a
    apply Fin.ext
    fin_cases a
    · show _ % 16 = x.val; rw [e0]; omega
    · exact e1
    · show _ - 512 = z.val; rw [e2]; omega

/-- The parts of all grid points at their tiles are the whole array at `outV`. -/
theorem out_join : bigSep Finset.univ (behindS X1 X2 W3 W4 X5 c) ⊢ own c outA (outV X1 X2 W3 W4 X5) := by
  refine BIBase.Entails.trans ?_ (owns_of_rects (c : Thread nD τ) outA fullShare pR (fun _ _ => rfl) pDisj pCov (outV X1 X2 W3 W4 X5))
  rw [bigSep_univ_sum]
  unfold behindS
  rw [bigSep_sep']
  refine BIClass.sep_mono (bigSep_mono fun u _ => show (_ : sProp 𝕄) ⊢ _ from ?_) (bigSep_mono fun u _ => show (_ : sProp 𝕄) ⊢ _ from ?_)
  · rw [outV_F X1 X2 W3 W4 X5 u]; exact .rfl
  · rw [outV_B X1 X2 W3 W4 X5 u]; exact .rfl

/-! ## The tile buffer's tiles -/

def tOff (t : Fin 2 × Fin 4) : Fin 5 → ℕ := ![t.1.val, t.2.val, 0, 0, 0]
theorem tInb (t : Fin 2 × Fin 4) : ∀ a : Fin 5, tOff t a + S1x1x16x64x512.size a ≤ S2x4x16x64x512.size a := inb_t t.1.val t.1.isLt t.2.val t.2.isLt
theorem tOff_eq : ∀ (t : Fin 2 × Fin 4) (a : Fin 5), tOff t a = tOff t a * S1x1x16x64x512.size a := by decide
def tUn (k : Fin 5 → ℕ) : Fin 2 × Fin 4 := (bk 2 (k 0), bk 4 (k 1))
theorem tUn_tOff : ∀ t : Fin 2 × Fin 4, tUn (tOff t) = t := by decide
theorem tOnto : ∀ (j0 : Fin 2) (j1 : Fin 4) (j2 : Fin 1) (j3 : Fin 1) (j4 : Fin 1), ∃ t : Fin 2 × Fin 4,
    ∀ a : Fin 5, tOff t a = (![j0.val, j1.val, j2.val, j3.val, j4.val] : Fin 5 → ℕ) a := by decide
theorem tIn : ∀ (t : Fin 2 × Fin 4) (a : Fin 5), tOff t a < (![2, 4, 1, 1, 1] : Fin 5 → ℕ) a := by decide

abbrev tR (t : Fin 2 × Fin 4) : Rect S2x4x16x64x512 := Rect.unit (s := S2x4x16x64x512) (tOff t) S1x1x16x64x512.size (tInb t)

theorem tDisj (t t' : Fin 2 × Fin 4) (h : t ≠ t') : Disjoint (tR t).set (tR t').set :=
  boxes_disjoint (s := S2x4x16x64x512) S1x1x16x64x512.size tOff tInb tOff tOff_eq tUn tUn_tOff t t' h

theorem tCov : (Finset.univ : Finset (Fin 2 × Fin 4)).biUnion (fun t => (tR t).set) = Finset.univ := by
  rw [boxes_cover_grid (s := S2x4x16x64x512) S1x1x16x64x512.size tOff tInb (fun _ => 0) S2x4x16x64x512.size (fun a => by simp) tOff tOff_eq
    ![2, 4, 1, 1, 1] (by decide) (fun _ => 0) (fun _ => by simp)
    (fun j => by
      obtain ⟨t, ht⟩ := tOnto (j 0) (j 1) (j 2) (j 3) (j 4)
      refine ⟨t, fun a => (ht a).trans ?_⟩
      fin_cases a <;> simp)
    (fun t a => ⟨Nat.zero_le _, by simpa using tIn t a⟩)]
  ext x
  simp only [Rect.mem_set_unit, Finset.mem_univ, iff_true]
  intro a
  exact ⟨Nat.zero_le _, by simpa using (x a).isLt⟩

/-- A tile at something is its slice of the buffer at something. -/
theorem tile_slice (t : Fin 2 × Fin 4) :
    (ownE (F := F) c (obuf.slice (tR t) (fun _ => rfl)) : sProp 𝕄) = ownE (F := F) c (tl' t.1.val t.1.isLt t.2) := by
  have hset : (tl' t.1.val t.1.isLt t.2).view.set = (obuf.slice (tR t) (fun _ => rfl)).view.set := View.set_reshape _ _
  refine equiv_iff.mp ⟨show (_ : sProp 𝕄) ⊢ _ from ?_, show (_ : sProp 𝕄) ⊢ _ from ?_⟩
  · iintro ⟨%X, H⟩
    ihave H := own_elim c _ X $$ H
    icases H with ⟨%f, -, H⟩
    iexists (tl' t.1.val t.1.isLt t.2).view.read (Elt F) f
    iapply (own_intro c (tl' t.1.val t.1.isLt t.2) _ f rfl)
    rw [hset]
    iexact H
  · iintro ⟨%X, H⟩
    ihave H := own_elim c _ X $$ H
    icases H with ⟨%f, -, H⟩
    iexists (obuf.slice (tR t) (fun _ => rfl)).view.read (Elt F) f
    iapply (own_intro c (obuf.slice (tR t) (fun _ => rfl)) _ f rfl)
    rw [← hset]
    iexact H

/-- The eight tiles at something. -/
def tiles : sProp 𝕄 := bigSep Finset.univ fun t : Fin 2 × Fin 4 => ownE (F := F) c (tl' t.1.val t.1.isLt t.2)

theorem tiles_split (X : S2x4x16x64x512.Idx → Elt F .f32) : own c obuf X ⊢ tiles (F := F) c := by
  refine (owns_rects (c : Thread nD τ) obuf fullShare tR (fun _ _ => rfl) tDisj tCov X).trans ?_
  unfold tiles
  refine bigSep_mono fun t _ => show (_ : sProp 𝕄) ⊢ _ from ?_
  rw [← tile_slice c t]
  iintro H; iexists _; iexact H

theorem tiles_join : tiles (F := F) c ⊢ ownE (F := F) c obuf := by
  unfold tiles
  rw [bigSep_congr fun t _ => (tile_slice (F := F) c t).symm]
  have hne : ∀ e, Nonempty (Elt F e) := inferInstance
  have hn : ∀ t : Fin 2 × Fin 4, Nonempty ((tR t).shape.Idx → Elt F .f32) := fun t => ⟨fun _ => (hne .f32).some⟩
  refine (Entails.of_eq (bigSep_exists_pi_eq _).symm).trans ?_
  iintro ⟨%f, H⟩
  iexists fun i => f ((i 0 : Fin 2), (i 1 : Fin 4)) (ix5 (0 : Fin 1) (0 : Fin 1) (i 2 : Fin 16) (i 3 : Fin 64) (i 4 : Fin 512))
  iapply (owns_of_rects (c : Thread nD τ) obuf fullShare tR (fun _ _ => rfl) tDisj tCov _)
  iapply (Entails.of_eq (bigSep_congr fun t _ => ?_)) $$ H
  congr 1
  funext j
  obtain ⟨t0, t1⟩ := t
  have e (a : Fin 5) : ((tR (t0, t1)).emb j a).val = tOff (t0, t1) a + (j a).val := emb_unit_val (sh := S2x4x16x64x512) _ _ _ _ _
  have h0 : (j 0).val < 1 := (j 0).isLt
  have h1 : (j 1).val < 1 := (j 1).isLt
  have e0 : ((tR (t0, t1)).emb j 0 : Fin 2) = t0 := Fin.ext ((e 0).trans (by show t0.val + (j 0).val = _; omega))
  have e1 : ((tR (t0, t1)).emb j 1 : Fin 4) = t1 := Fin.ext ((e 1).trans (by show t1.val + (j 1).val = _; omega))
  have e2 : ((tR (t0, t1)).emb j 2).val = (j 2).val := (e 2).trans (by show 0 + (j 2).val = _; omega)
  have e3 : ((tR (t0, t1)).emb j 3).val = (j 3).val := (e 3).trans (by show 0 + (j 3).val = _; omega)
  have e4 : ((tR (t0, t1)).emb j 4).val = (j 4).val := (e 4).trans (by show 0 + (j 4).val = _; omega)
  have hi : f (((tR (t0, t1)).emb j 0 : Fin 2), ((tR (t0, t1)).emb j 1 : Fin 4)) = f (t0, t1) := by rw [e0, e1]
  refine (Eq.trans (congrFun hi _) (congrArg (f (t0, t1)) ?_)).symm
  funext a
  apply Fin.ext
  fin_cases a
  · show 0 = (j 0).val; omega
  · show 0 = (j 1).val; omega
  · exact e2
  · exact e3
  · exact e4

end Cert.KernelIdeal.Rec
-- ==== Proof.KernelIdealBody1.lean ====
/- The recurrent call's proof data from any contents of the buffers, and its body's obligation. -/
module

public import proofs.«01_k».proof.Proof.KernelIdealPieces
public import proofs.«01_k».proof.Proof.Gen.KernelIdeal.Points
public import proofs.«01_k».proof.Proof.Gen.KernelIdeal.Regions

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx Idealize.ShloMosaic.Ring
open Idealize.ShloMosaic.Pipeline (Dat Cfg Window BodyObligation)

variable {F : FTy → Type} [FloatOps F]

local notation "𝕄" => MT nD τ sig Unit (Elt F) ℕ UU ℕ

/-! ## The blocks -/

/-- The forward block of grid point `t`: rows `16 t …`, left half. -/
def xF {α : Type} (g : S3x512x64x1024.Idx → α) (t : Fin 32) : S3x16x64x512.Idx → α := fun j =>
  g (ix4 (j 0 : Fin 3) (⟨t.val * 16 + (j 1).val, by have : (j 1).val < 16 := (j 1).isLt; have := t.isLt; omega⟩ : Fin 512) (j 2 : Fin 64)
    (⟨(j 3).val, by have : (j 3).val < 512 := (j 3).isLt; omega⟩ : Fin 1024))

/-- The backward block of grid point `t`: rows `16 (31 - t) …`, right half. -/
def xB {α : Type} (g : S3x512x64x1024.Idx → α) (t : Fin 32) : S3x16x64x512.Idx → α := fun j =>
  g (ix4 (j 0 : Fin 3) (⟨(31 - t.val) * 16 + (j 1).val, by have : (j 1).val < 16 := (j 1).isLt; omega⟩ : Fin 512) (j 2 : Fin 64)
    (⟨512 + (j 3).val, by have : (j 3).val < 512 := (j 3).isLt; omega⟩ : Fin 1024))

theorem tr0_eq : ∀ (t : Fin 32) (a : Fin 4), cc1_transform_0 (co t) a = (![0, t.val, 0, 0] : Fin 4 → ℕ) a := by decide +kernel
theorem tr1_eq : ∀ (t : Fin 32) (a : Fin 4), cc1_transform_1 (co t) a = (![0, 31 - t.val, 0, 1] : Fin 4 → ℕ) a := by decide +kernel

/-- A grid point as a number below 32. -/
abbrev pt (t : Fin cfg1.N) : Fin 32 := Fin.cast N_1 t

theorem co_pt (t : Fin cfg1.N) : co (pt t) = cfg1.grid.coords t := rfl

theorem blk0 (g : S3x512x64x1024.Idx → Elt F .bf16) (t : Fin cfg1.N) : ((cfg1.win 0).blk t).view.read (Elt F) g = xF g (pt t) := by
  funext j
  refine congrArg g (funext fun a => Fin.ext ?_)
  show cc1_transform_0 (co (pt t)) a * S3x16x64x512.size a + 1 * (j a).val = _
  rw [tr0_eq]
  fin_cases a
  · show 0 * 3 + 1 * (j 0).val = (j 0).val; omega
  · show (pt t).val * 16 + 1 * (j 1).val = (pt t).val * 16 + (j 1).val; omega
  · show 0 * 64 + 1 * (j 2).val = (j 2).val; omega
  · show 0 * 512 + 1 * (j 3).val = (j 3).val; omega

theorem blk1 (g : S3x512x64x1024.Idx → Elt F .bf16) (t : Fin cfg1.N) : ((cfg1.win 1).blk t).view.read (Elt F) g = xB g (pt t) := by
  funext j
  refine congrArg g (funext fun a => Fin.ext ?_)
  show cc1_transform_1 (co (pt t)) a * S3x16x64x512.size a + 1 * (j a).val = _
  rw [tr1_eq]
  fin_cases a
  · show 0 * 3 + 1 * (j 0).val = (j 0).val; omega
  · show (31 - (pt t).val) * 16 + 1 * (j 1).val = (31 - (pt t).val) * 16 + (j 1).val; omega
  · show 0 * 64 + 1 * (j 2).val = (j 2).val; omega
  · show 1 * 512 + 1 * (j 3).val = 512 + (j 3).val; omega

theorem blk2 (g : S2x512x1024.Idx → Elt F .bf16) (t : Fin cfg1.N) : ((cfg1.win 2).blk t).view.read (Elt F) g = g := by
  funext j
  refine congrArg g (funext fun a => Fin.ext ?_)
  show (![0, 0, 0] : Fin 3 → ℕ) a * S2x512x1024.size a + 1 * (j a).val = _
  fin_cases a <;> simp

theorem blk3 (g : S2x512x512.Idx → Elt F .bf16) (t : Fin cfg1.N) : ((cfg1.win 3).blk t).view.read (Elt F) g = g := by
  funext j
  refine congrArg g (funext fun a => Fin.ext ?_)
  show (![0, 0, 0] : Fin 3 → ℕ) a * S2x512x512.size a + 1 * (j a).val = _
  fin_cases a <;> simp

theorem blk4 (g : S64x1024.Idx → Elt F .f32) (t : Fin cfg1.N) : ((cfg1.win 4).blk t).view.read (Elt F) g = g := by
  funext j
  refine congrArg g (funext fun a => Fin.ext ?_)
  show (![0, 0] : Fin 2 → ℕ) a * S64x1024.size a + 1 * (j a).val = _
  fin_cases a <;> simp

theorem blk5 (g : S64x1024.Idx → Elt F .f32) (t : Fin cfg1.N) : ((cfg1.win 5).blk t).view.read (Elt F) g = g := by
  funext j
  refine congrArg g (funext fun a => Fin.ext ?_)
  show (![0, 0] : Fin 2 → ℕ) a * S64x1024.size a + 1 * (j a).val = _
  fin_cases a <;> simp

/-! ## The proof data -/

variable (V : (c : Dev nD) → (b : Ref sig .tc) → Buf (Elt F) ((c : Thread nD τ).loc b)) (c : Dev nD)

abbrev XF : Fin 32 → S3x16x64x512.Idx → Elt F .bf16 := xF (V c main_v30)
abbrev XB : Fin 32 → S3x16x64x512.Idx → Elt F .bf16 := xB (V c main_v30)
abbrev WA : S2x512x1024.Idx → Elt F .bf16 := V c main_v21
abbrev WB : S2x512x512.Idx → Elt F .bf16 := V c main_v29
abbrev HI : S64x1024.Idx → Elt F .f32 := V c main_arg1

/-- The states after the last grid point, as the second result's block. -/
def lastV : S64x1024.Idx → Elt F .f32 :=
  cat (hAt (XF V c) (XB V c) (WA V c) (WB V c) (HI V c) 32).1 (hAt (XF V c) (XB V c) (WA V c) (WB V c) (HI V c) 32).2

/-- The staging buffers of the other call, at anything. -/
def rest0 : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

abbrev hbuf : Memref sig .tc .vmem S2x64x512 .f32 := Memref.whole cc1_scratch0

/-- The invariant before step `p`: the states, the ring, the other call's buffers. -/
def inv (p : ℕ) : sProp 𝕄 :=
  iprop(hst (XF V c) (XB V c) (WA V c) (WB V c) (HI V c) c hbuf p
    ∗ ringΦ (XF V c) (XB V c) (WA V c) (WB V c) (HI V c) c p ∗ rest0 (F := F) c)

/-- The proof data of the recurrent call entered at contents `V`. -/
def dat1 : Dat τ (Elt F) Unit ℕ UU ℕ cfg1 c where
  A w := V c (Pipeline.arrRef spec1 w)
  after w t := match w with
    | ⟨0, _⟩ => XF V c (pt t)
    | ⟨1, _⟩ => XB V c (pt t)
    | ⟨2, _⟩ => WA V c
    | ⟨3, _⟩ => WB V c
    | ⟨4, _⟩ => HI V c
    | ⟨5, _⟩ => lastV V c
  Φ p := inv V c p.val
  q w := Pipeline.shareOf spec1 w
  owed _ := 0

theorem before0 (t : Fin cfg1.N) (d) : (dat1 V c).before 0 t d = XF V c (pt t) :=
  ((dat1 V c).before_in_eq_fetched 0 rfl (fun _ => rfl) (fun _ _ _ => rfl) (fun t => (blk0 (V c main_v30) t).symm) t d).trans
    (blk0 (V c main_v30) t)
theorem before1 (t : Fin cfg1.N) (d) : (dat1 V c).before 1 t d = XB V c (pt t) :=
  ((dat1 V c).before_in_eq_fetched 1 rfl (fun _ => rfl) (fun _ _ _ => rfl) (fun t => (blk1 (V c main_v30) t).symm) t d).trans
    (blk1 (V c main_v30) t)
theorem before2 (t : Fin cfg1.N) (d) : (dat1 V c).before 2 t d = WA V c :=
  ((dat1 V c).before_in_eq_fetched 2 rfl (fun _ => rfl) (fun _ _ _ => rfl) (fun t => (blk2 (V c main_v21) t).symm) t d).trans
    (blk2 (V c main_v21) t)
theorem before3 (t : Fin cfg1.N) (d) : (dat1 V c).before 3 t d = WB V c :=
  ((dat1 V c).before_in_eq_fetched 3 rfl (fun _ => rfl) (fun _ _ _ => rfl) (fun t => (blk3 (V c main_v29) t).symm) t d).trans
    (blk3 (V c main_v29) t)
theorem before4 (t : Fin cfg1.N) (d) : (dat1 V c).before 4 t d = HI V c :=
  ((dat1 V c).before_in_eq_fetched 4 rfl (fun _ => rfl) (fun _ _ _ => rfl) (fun t => (blk4 (V c main_arg1) t).symm) t d).trans
    (blk4 (V c main_arg1) t)

abbrev 𝒱₀ : Variants := Variants.none

/-- What the body leaves of the second result's buffer is what the obligation asks. -/
theorem win5_left (t : Fin cfg1.N) (d : (cfg1.win 5).block.Idx → Elt F (cfg1.win 5).elt) :
    own c (st1_5 t) (lastOut (XF V c) (XB V c) (WA V c) (WB V c) (HI V c) (pt t).val ((dat1 V c).before 5 t d))
      ⊢ (match cfg1.idle 5 (cfg1.grid.coords t) with
          | true =>
            match (cfg1.win 5).flush t with
            | false => iprop(∃ d, owns (c : Thread nD τ) ((cfg1.win 5).stage (cfg1.slots t 5)) fullShare ((dat1 V c).before 5 t d))
            | true => owns (c : Thread nD τ) ((cfg1.win 5).stage (cfg1.slots t 5)) fullShare ((dat1 V c).after 5 t)
          | false => owns (c : Thread nD τ) ((cfg1.win 5).stage (cfg1.slots t 5)) fullShare ((dat1 V c).after 5 t) : sProp 𝕄) := by
  by_cases h : (pt t).val = 31
  · rw [show cfg1.idle 5 (cfg1.grid.coords t) = false from by
      show (!(k1_cond3 (co (pt t)) == 1#1)) = false
      rw [(cond3_iff (pt t)).mpr h]; rfl]
    unfold lastOut
    rw [if_pos h]
    exact .rfl
  · rw [show cfg1.idle 5 (cfg1.grid.coords t) = true from by
      show (!(k1_cond3 (co (pt t)) == 1#1)) = true
      rw [Bool.not_eq_true', beq_eq_false_iff_ne]
      exact fun e => h ((cond3_iff (pt t)).mp e),
      show (cfg1.win 5).flush t = false from by
        rw [← Bool.not_eq_true]
        intro e
        have := (flush1_5 t).mp e
        have hl := (pt t).isLt
        have : t.val = (pt t).val := rfl
        omega]
    unfold lastOut
    rw [if_neg h]
    dsimp only
    iintro H
    iexists d
    iexact H

/-- The body's obligation. -/
theorem body1 : BodyObligation (dat1 V c) (defs₀ (F := F)) 𝒱₀ () Set.univ := fun t => by
  rw [bigSep_W1, bigSep_W1]
  dsimp only
  show _ ⊢ wp frame (wpE (defs₀ (F := F)) 𝒱₀ (c : Thread nD τ) none) Set.univ (bodyAt1 t) _
  unfold bodyAt1
  rw [body_eq]
  show iprop(inv V c t.val ∗ _) ⊢ _
  unfold inv
  iintro ⟨⟨H8, HR, Hrest⟩, HO, ⟨%d0, H0⟩, ⟨%d1, H1⟩, ⟨%d2, H2⟩, ⟨%d3, H3⟩, ⟨%d4, H4⟩, ⟨%d5, H5⟩⟩
  rw [before0, before1, before2, before3, before4]
  iapply (wp_point (XF V c) (XB V c) (WA V c) (WB V c) (HI V c) c 𝒱₀ none (st1_0 t) (st1_1 t) (st1_2 t) (st1_3 t) (st1_4 t) (st1_5 t) hbuf (pt t)
    ((dat1 V c).before 5 t d5))
  isplitl [H0 H1 H2 H3]
  · isplitl [H0]; · iexact H0
    isplitl [H1]; · iexact H1
    isplitl [H2]; · iexact H2
    iexact H3
  isplitl [H4]; · iexact H4
  isplitl [H5]; · iexact H5
  isplitl [H8]; · iexact H8
  isplitl [HR]; · iexact HR
  isplitl [HO]
  · unfold Pipeline.Dat.owesAt Pipeline.owesWithin
    icases HO with ⟨%W, -, HO⟩; iexists W; iexact HO
  iintro ⟨⟨H0, H1, H2, H3⟩, H4, H5, H8, HR, ⟨%W, HO⟩⟩
  ihave H5 := (win5_left V c t d5) $$ H5
  isplitl [H8 HR Hrest]
  · rw [show (dat1 V c).Φ t.succ = inv V c (t.val + 1) from rfl]
    unfold inv
    isplitl [H8]; · iexact H8
    isplitl [HR]; · iexact HR
    iexact Hrest
  isplitl [HO]
  · unfold Pipeline.Dat.owesAt Pipeline.owesWithin
    iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

end Cert.KernelIdeal.Rec
-- ==== Proof.KernelIdealEnds.lean ====
/- The recurrent call's invariant at its two ends: built from the scratch buffers, the semaphores and the output array, and taken
   apart into them again, the output array holding every grid point's tiles. -/
module

public import proofs.«01_k».proof.Proof.KernelIdealBody1

@[expose] public section

set_option maxRecDepth 16384

noncomputable section

namespace Cert.KernelIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx Idealize.ShloMosaic.Ring
open Idealize.ShloMosaic.Pipeline (Dat Cfg Window BodyObligation)

variable {F : FTy → Type} [FloatOps F]

local notation "𝕄" => MT nD τ sig Unit (Elt F) ℕ UU ℕ

/-- A family over directions and slots, gathered by slot. -/
theorem bigSep_pairs {M : Type} [URA M] (P : Fin 2 × Fin 4 → sProp M) :
    bigSep Finset.univ P = bigSep Finset.univ fun s : Fin 4 => iprop(P (0, s) ∗ P (1, s)) := by
  rw [bigSep_sep', bigSep_fin4, bigSep_fin4,
    bigSep_univ_eq_bigSepL [((0 : Fin 2), (0 : Fin 4)), (0, 1), (0, 2), (0, 3), (1, 0), (1, 1), (1, 2), (1, 3)] (by decide) (by decide) P]
  refine (equiv_iff.mp ⟨BI.sep_assoc, BI.sep_assoc'⟩).trans (congrArg _ ((equiv_iff.mp ⟨BI.sep_assoc, BI.sep_assoc'⟩).trans (congrArg _ (equiv_iff.mp ⟨BI.sep_assoc, BI.sep_assoc'⟩)))) |>.symm

/-- The transfers' semaphores. -/
def osem : Fin 2 × Fin 4 → SemLoc sig := fun t => .dma (cl' t.1.val t.1.isLt t.2)

theorem osem_facts : Pipeline.OwnSemFacts spec1 osem := by decide

variable (c : Dev nD)

theorem sems_eq : (Pipeline.ownSems0 osem c : sProp 𝕄)
    = bigSep Finset.univ fun s : Fin 4 => iprop(semVal ((c : Thread nD τ), .dma (cl' 0 (by decide) s)) 0 ∗ semVal ((c : Thread nD τ), .dma (cl' 1 (by decide) s)) 0) := by
  unfold Pipeline.ownSems0
  exact bigSep_pairs _

theorem tiles_eq : tiles (F := F) c
    = bigSep Finset.univ fun s : Fin 4 => iprop(ownE (F := F) c (tl' 0 (by decide) s) ∗ ownE (F := F) c (tl' 1 (by decide) s)) := by
  unfold tiles
  exact bigSep_pairs _

theorem free_eq : bigSep Finset.univ (freeS (F := F) c) = iprop(tiles (F := F) c ∗ Pipeline.ownSems0 osem c) := by
  rw [sems_eq, tiles_eq, ← bigSep_sep']
  rfl

variable (X1 X2 : Fin 32 → S3x16x64x512.Idx → Elt F .bf16) (W3 : S2x512x1024.Idx → Elt F .bf16) (W4 : S2x512x512.Idx → Elt F .bf16) (X5 : S64x1024.Idx → Elt F .f32)

/-- Before the first point. -/
theorem ring_start (X : S2x4x16x64x512.Idx → Elt F .f32) (Y : S512x64x1024.Idx → Elt F .f32) :
    iprop(own c obuf X ∗ Pipeline.ownSems0 osem c ∗ own c outA Y) ⊢ ringΦ X1 X2 W3 W4 X5 c 0 := by
  rw [ringΦ, AtBΦ_lt _ _ _ _ _ 0 (by decide), AtB_zero, AtB₀, free_eq]
  iintro ⟨H9, Hs, HA⟩
  isplitl [HA]; · iapply (out_split c Y) $$ HA
  isplitl [H9]; · iapply (tiles_split c X) $$ H9
  iexact Hs

/-- After the last point. -/
theorem ring_end : ringΦ X1 X2 W3 W4 X5 c 32
    ⊢ iprop(ownE (F := F) c obuf ∗ Pipeline.ownSems0 osem c ∗ own c outA (outV X1 X2 W3 W4 X5)) := by
  rw [ringΦ, AtBΦ_end _ _ _ _ _ 32 rfl, AtBEnd, free_eq]
  iintro ⟨HA, H9, Hs⟩
  isplitl [H9]; · iapply (tiles_join c) $$ H9
  isplitl [Hs]; · iexact Hs
  iapply (out_join c X1 X2 W3 W4 X5) $$ HA

variable (V : (c : Dev nD) → (b : Ref sig .tc) → Buf (Elt F) ((c : Thread nD τ).loc b))

theorem own_whole (b : Ref sig .tc) (f : Buf (Elt F) ((c : Thread nD τ).loc b)) :
    own c (Memref.whole b) f = (((c : Thread nD τ).loc b) ↦{fullShare} f : sProp 𝕄) := owns_whole (c : Thread nD τ) b fullShare f

theorem own_give (b : Ref sig .tc) (f : Buf (Elt F) ((c : Thread nD τ).loc b)) :
    own c (Memref.whole b) f ⊢ (((c : Thread nD τ).loc b) ↦{fullShare} f : sProp 𝕄) := Entails.of_eq (own_whole c b f)

/-- The output array after the call. -/
abbrev outR : S512x64x1024.Idx → Elt F .f32 := outV (XF V c) (XB V c) (WA V c) (WB V c) (HI V c)

/-- The invariant before the first point, from the output array, the semaphores and the buffers that the call does not stage. -/
theorem inv_start (Y : S512x64x1024.Idx → Elt F .f32) :
    iprop((((c : Thread nD τ).loc main_v31_0) ↦{fullShare} Y) ∗ Pipeline.ownSems0 osem c
        ∗ Pipeline.scopedRest (Ix := Unit) (Name := ℕ) (U := UU) (Lvl := ℕ) (Val := Elt F) spec1 c) ⊢ inv V c 0 := by
  rw [scopedRest1_eq]
  unfold inv rest0 hst
  rw [if_pos rfl]
  iintro ⟨HA, Hs, Ha, Hb, Hc, Hd, He, Hf, ⟨%f8, H8⟩, ⟨%f9, H9⟩⟩
  isplitl [H8]
  · iexists f8
    rw [own_whole]
    iexact H8
  isplitl [HA Hs H9]
  · iapply (ring_start c (XF V c) (XB V c) (WA V c) (WB V c) (HI V c) f9 Y)
    isplitl [H9]; · rw [own_whole]; iexact H9
    isplitl [Hs]; · iexact Hs
    rw [own_whole]; iexact HA
  isplitl [Ha]; · iexact Ha
  isplitl [Hb]; · iexact Hb
  isplitl [Hc]; · iexact Hc
  isplitl [Hd]; · iexact Hd
  isplitl [He]; · iexact He
  iexact Hf

/-- The invariant after the last point gives them back, the output array filled. -/
theorem inv_end : inv V c 32 ⊢ iprop((((c : Thread nD τ).loc main_v31_0) ↦{fullShare} outR c V) ∗ Pipeline.ownSems0 osem c
        ∗ Pipeline.scopedRest (Ix := Unit) (Name := ℕ) (U := UU) (Lvl := ℕ) (Val := Elt F) spec1 c) := by
  rw [scopedRest1_eq]
  unfold inv rest0 hst
  rw [if_neg (by decide), own_whole]
  iintro ⟨H8, HR, Ha, Hb, Hc, Hd, He, Hf⟩
  ihave HR := (ring_end c (XF V c) (XB V c) (WA V c) (WB V c) (HI V c)) $$ HR
  icases HR with ⟨⟨%f9, H9⟩, Hs, HA⟩
  isplitl [HA]; · iapply (own_give c main_v31_0 (outR c V)) $$ HA
  isplitl [Hs]; · iexact Hs
  isplitl [Ha]; · iexact Ha
  isplitl [Hb]; · iexact Hb
  isplitl [Hc]; · iexact Hc
  isplitl [Hd]; · iexact Hd
  isplitl [He]; · iexact He
  isplitl [Hf]; · iexact Hf
  isplitl [H8]; · iexists _; iexact H8
  iexists f9; iapply (own_give c cc1_scratch1 f9) $$ H9

theorem flush_last (t : Fin cfg1.N) (h : (cfg1.win 5).flush t = true) : (pt t).val = 31 := by
  have := (flush1_5 t).mp h
  have hl := (pt t).isLt
  have : t.val = (pt t).val := rfl
  omega

theorem blk5_emb (t : Fin cfg1.N) (j : S64x1024.Idx) : ((cfg1.win 5).blk t).view.emb j = (j : S64x1024.Idx) := by
  refine funext fun a => Fin.ext ?_
  show (![0, 0] : Fin 2 → ℕ) a * S64x1024.size a + 1 * (j a).val = _
  fin_cases a <;> simp

/-- After the call the second result's array holds the last states. -/
theorem final5 : (dat1 V c).arrAt 5 cfg1.N = lastV V c := by
  refine (dat1 V c).arrAt_eq_of_cover 5 (lastV V c) (fun t _ => (blk5 (lastV V c) t).symm) fun i => ?_
  refine ⟨Fin.cast N_1.symm (31 : Fin 32), (flush1_5 _).mpr rfl, ?_⟩
  rw [← blk5_emb (Fin.cast N_1.symm (31 : Fin 32)) i]
  exact View.emb_mem_set _ _

end Cert.KernelIdeal.Rec
-- ==== Proof.KernelIdealRegions.lean ====
/- The two calls as segments of @main over the unscoped buffers: each is entered from any contents and left with its results
   at the values the call computes. -/
module

public import proofs.«01_k».proof.Proof.KernelIdealBody0
public import proofs.«01_k».proof.Proof.KernelIdealEnds
public import Idealize.ShloMosaic.Lib.Pipeline.RegionsLoop

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx
open Idealize.ShloMosaic.Pipeline (Dat Cfg Window BodyObligation)
open Cert.KernelIdeal.Rec (UU)

variable {F : FTy → Type} [FloatOps F]

local notation "𝕄" => MT nD τ sig Unit (Elt F) ℕ UU ℕ

abbrev 𝒱₀ : Variants := Variants.none

/-- No core owes another anything: no level is assigned. -/
abbrev L : GSem nD τ sig → Finset Unit := fun _ => ∅
abbrev lv : GSem nD τ sig → Unit → ℕ := fun _ _ => 0

/-- Contents of a core's buffers. -/
abbrev Vals (F : FTy → Type) : Type := (c : Dev nD) → (b : Ref sig .tc) → Buf (Elt F) ((c : Thread nD τ).loc b)

variable (VA VB : Vals F)

/-- The calls' proof data: the projection entered at `VA`, the recurrence at `VB`. -/
def pdats : (p : Fin 2) → (c : Dev nD) → Dat τ (Elt F) Unit ℕ UU ℕ (cfgs p) c
  | ⟨0, _⟩ => fun c => Proj.dat0 VA c
  | ⟨1, _⟩ => fun c => Rec.dat1 VB c

/-- Nothing owed. -/
abbrev noDue (c : Dev nD) : sProp 𝕄 := iprop(∃ W, owes (c : Thread nD τ) (0 : CellTallies nD τ sig Unit) W)

section R0

variable (Vp : Vals F)

theorem exit0 (hout : ∀ c, Vp c main_v30 = Proj.xgV VA c) (hne : ∀ c (b : Ref sig .tc), b ≠ main_v30 → Vp c b = VA c b) (c : Dev nD) (w : Fin 4) :
    (Proj.dat0 VA c).arrAt w cfg0.N = Vp c (Pipeline.arrRef spec0 w) := by
  fin_cases w
  · exact ((Proj.dat0 VA c).arrAt_in 0 rfl _).trans (hne c main_arg0 (by decide)).symm
  · exact ((Proj.dat0 VA c).arrAt_in 1 rfl _).trans (hne c main_v3 (by decide)).symm
  · exact ((Proj.dat0 VA c).arrAt_in 2 rfl _).trans (hne c main_v7 (by decide)).symm
  · exact (Proj.final0 VA c).trans (hout c).symm

set_option backward.isDefEq.respectTransparency.types false in
/-- The projection's call. -/
def reg0 (hout : ∀ c, Vp c main_v30 = Proj.xgV VA c) (hne : ∀ c (b : Ref sig .tc), b ≠ main_v30 → Vp c b = VA c b) :
    Pipeline.RegionSeg (pcfgs (F := F)) adm (pdats VA VB) () defs₀ 𝒱₀ L lv 0 where
  win := (launch0).win.to₀
  block_pos := (launch0).block_pos
  stage_whole := (launch0).stage_whole
  K := PEmpty
  osem k := k.elim
  ho := Pipeline.OwnSemFacts.none _
  hbody c := (Proj.body0 VA c).loose
  hwaits := Pipeline.hwaits_of_owed_zero _ _ _ _ L lv 0 fun _ _ => rfl
  pre c := iprop(unscopedBufs c (VA c) ∗ noDue c)
  post c := iprop(unscopedBufs c (Vp c) ∗ noDue c)
  X _ := BI.emp
  Y _ := BI.emp
  Z c := Pipeline.unscopedRest (Ix := Unit) (Name := ℕ) (U := UU) (Lvl := ℕ) spec0 c (VA c)
  hentry c := by
    rw [Pipeline.ownSems0_none]
    have hsplit := Pipeline.arrays_of_unscopedBufs (p := 0) (pcfgs (F := F)) adm (pdats VA VB) (launch0).win (launch0).arr_whole c
      ((pdats VA VB 0 c).share_full fun _ => rfl) (VA c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 0 c).Φ 0 = Proj.Φ0 c from rfl]
    iintro ⟨-, -, Hr⟩; iexact Hr
  hout c := by
    rw [Pipeline.ownSems0_none, show (pdats VA VB 0 c).Φ (Fin.last _) = Proj.Φ0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) (launch0).win (launch0).arr_whole c
      (pdats VA VB) ((pdats VA VB 0 c).share_full fun _ => rfl) (VA c) (Vp c) ((pdats VA VB 0 c).arrAt · cfg0.N)
      (fun w => exit0 VA Vp hout hne c w)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end R0

section R1

variable (Vp : Vals F)

theorem out_mem : ({main_v31_0} : Finset (Ref sig .tc)) ⊆ Pipeline.restRefs sig spec1 := by decide

/-- The unscoped buffers that are no window's array: the output array apart. -/
theorem rest_split (c : Dev nD) (V : (b : Ref sig .tc) → Buf (Elt F) ((c : Thread nD τ).loc b)) :
    (Pipeline.unscopedRest (Ix := Unit) (Name := ℕ) (U := UU) (Lvl := ℕ) spec1 c V : sProp 𝕄)
      = iprop((((c : Thread nD τ).loc main_v31_0) ↦{fullShare} V main_v31_0)
          ∗ bigSep (Pipeline.restRefs sig spec1 \ {main_v31_0}) fun b => ((c : Thread nD τ).loc b) ↦{fullShare} V b) := by
  rw [Pipeline.unscopedRest_sdiff spec1 {main_v31_0} out_mem c V, bigSep_singleton]

theorem exit1 (hout : ∀ c, Vp c main_v31_1 = Rec.lastV VB c) (hne : ∀ c (b : Ref sig .tc), b ≠ main_v31_1 → b ≠ main_v31_0 → Vp c b = VB c b) (c : Dev nD) (w : Fin 6) :
    (Rec.dat1 VB c).arrAt w cfg1.N = Vp c (Pipeline.arrRef spec1 w) := by
  fin_cases w
  · exact ((Rec.dat1 VB c).arrAt_in 0 rfl _).trans (hne c main_v30 (by decide) (by decide)).symm
  · exact ((Rec.dat1 VB c).arrAt_in 1 rfl _).trans (hne c main_v30 (by decide) (by decide)).symm
  · exact ((Rec.dat1 VB c).arrAt_in 2 rfl _).trans (hne c main_v21 (by decide) (by decide)).symm
  · exact ((Rec.dat1 VB c).arrAt_in 3 rfl _).trans (hne c main_v29 (by decide) (by decide)).symm
  · exact ((Rec.dat1 VB c).arrAt_in 4 rfl _).trans (hne c main_arg1 (by decide) (by decide)).symm
  · exact (Rec.final5 c VB).trans (hout c).symm

/-- The buffers no window reads and the call leaves alone, at the new contents. -/
theorem rest_put (h0 : ∀ c, Vp c main_v31_0 = Rec.outR c VB) (hne : ∀ c (b : Ref sig .tc), b ≠ main_v31_1 → b ≠ main_v31_0 → Vp c b = VB c b) (c : Dev nD) :
    iprop((((c : Thread nD τ).loc main_v31_0) ↦{fullShare} Rec.outR c VB)
      ∗ bigSep (Pipeline.restRefs sig spec1 \ {main_v31_0}) fun b => ((c : Thread nD τ).loc b) ↦{fullShare} VB c b)
      ⊢ (Pipeline.unscopedRest (Ix := Unit) (Name := ℕ) (U := UU) (Lvl := ℕ) spec1 c (Vp c) : sProp 𝕄) := by
  rw [rest_split, h0]
  refine BIClass.sep_mono (Entails.of_eq rfl) (Entails.of_eq (bigSep_congr fun b hb => ?_))
  have h1 : b ≠ main_v31_0 := fun h => (Finset.mem_sdiff.mp hb).2 (Finset.mem_singleton.mpr h)
  have h2 : b ≠ main_v31_1 := fun h => by
    subst h
    revert hb
    decide
  rw [hne c b h2 h1]

set_option backward.isDefEq.respectTransparency.types false in
/-- The recurrence's call. -/
def reg1 (hout : ∀ c, Vp c main_v31_1 = Rec.lastV VB c) (h0 : ∀ c, Vp c main_v31_0 = Rec.outR c VB)
    (hne : ∀ c (b : Ref sig .tc), b ≠ main_v31_1 → b ≠ main_v31_0 → Vp c b = VB c b) :
    Pipeline.RegionSeg (pcfgs (F := F)) adm (pdats VA VB) () defs₀ 𝒱₀ L lv 1 where
  win := winFacts₀1
  block_pos := block_pos1
  stage_whole := stage_whole1
  K := Fin 2 × Fin 4
  osem := Rec.osem
  ho := Rec.osem_facts
  hbody c := (Rec.body1 VB c).loose
  hwaits := Pipeline.hwaits_of_owed_zero _ _ _ _ L lv 1 fun _ _ => rfl
  pre c := iprop(unscopedBufs c (VB c) ∗ noDue c)
  post c := iprop(unscopedBufs c (Vp c) ∗ noDue c)
  X c := iprop((((c : Thread nD τ).loc main_v31_0) ↦{fullShare} VB c main_v31_0) ∗ Pipeline.ownSems0 Rec.osem c)
  Y c := iprop((((c : Thread nD τ).loc main_v31_0) ↦{fullShare} Rec.outR c VB))
  Z c := bigSep (Pipeline.restRefs sig spec1 \ {main_v31_0}) fun b => ((c : Thread nD τ).loc b) ↦{fullShare} VB c b
  hentry c := by
    have hsplit := Pipeline.arrays_of_unscopedBufs_shared (p := 1) (pcfgs (F := F)) adm (pdats VA VB) winFacts₀1 sharedIn1 arr_whole1 c
      (fun _ _ => rfl) (VB c) fun _ => rfl
    iintro ⟨⟨Hub, HO⟩, Hs, -⟩
    ihave H := hsplit $$ Hub
    icases H with ⟨Ha, Hrest⟩
    ihave Hrest := (Entails.of_eq (rest_split c (VB c))) $$ Hrest
    icases Hrest with ⟨Hout, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hout Hs]; · isplitl [Hout] <;> iassumption
    iexact Hrest
  hin c := by
    rw [show (pdats VA VB 1 c).Φ 0 = Rec.inv VB c 0 from rfl]
    iintro ⟨⟨Ho, Hs⟩, -, Hr⟩
    iapply (Rec.inv_start c VB (VB c main_v31_0))
    isplitl [Ho]; · iexact Ho
    isplitl [Hs] <;> iassumption
  hout c := by
    rw [show (pdats VA VB 1 c).Φ (Fin.last _) = Rec.inv VB c 32 from rfl]
    exact Rec.inv_end c VB
  hexit c := by
    have hjoin := Pipeline.unscopedBufs_of_arrays_shared (p := 1) (pcfgs (F := F)) adm (Ix := Unit) (Name := ℕ) (U := UU) (Lvl := ℕ) winFacts₀1 sharedIn1 arr_whole1 c
      (pdats VA VB) (fun _ _ => rfl) (Vp c) (Vp c) ((pdats VA VB 1 c).arrAt · cfg1.N)
      (fun w => exit1 VB Vp hout hne c w) (fun b hb => rfl)
    iintro ⟨Ha, HO, Hout, Hrest⟩
    ihave Hrest := (rest_put VB Vp h0 hne c) $$ [Hout Hrest]
    · isplitl [Hout] <;> iassumption
    imodintro
    isplitl [Ha Hrest]
    · iapply hjoin; isplitl [Ha] <;> iassumption
    unfold Pipeline.Dat.owesAt Pipeline.owesWithin
    icases HO with ⟨%W, -, HO⟩; iexists W; iexact HO

end R1

end Cert.KernelIdeal.Run
-- ==== Proof.KernelIdealLaunch.lean ====
/- The kernel's run: it terminates, its arguments end as launched, every semaphore at zero, and its two results end at the
   values the recurrence's call computes from the values the projection's call computes. -/
module

public import proofs.«01_k».proof.Proof.KernelIdealRegions

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx
open Idealize.ShloMosaic.Pipeline (Dat Cfg Window BodyObligation Seg)
open Cert.KernelIdeal.Rec (UU)

variable {F : FTy → Type} [FloatOps F]

local notation "𝕄" => MT nD τ sig Unit (Elt F) ℕ UU ℕ

variable (m : (ℓ : Loc nD τ sig) → Buf (Elt F) ℓ)

/-- The contents when the projection's call begins. -/
def entry0 : Vals F := fun c b => V1 m c b

/-- What the calls leave in their results. -/
def mid : Outs (F := F) := fun _ r c => if h : r = main_v30 then h ▸ Proj.xgV (entry0 m) c else entry0 m c r

/-- The contents when the recurrence's call begins. -/
def entry1 : Vals F := fun c b => V2 m (mid m) c b

/-- What the calls leave in their results. -/
def outs : Outs (F := F) := fun n r c =>
  if h : r = main_v30 then h ▸ Proj.xgV (entry0 m) c
  else if h : r = main_v31_1 then h ▸ Rec.lastV (entry1 m) c
  else if h : r = main_v31_0 then h ▸ Rec.outR c (entry1 m)
  else entry0 m c r

theorem outs_v30 (c : Dev nD) : outs m 2 main_v30 c = Proj.xgV (entry0 m) c := by
  unfold outs; rw [dif_pos rfl]
theorem mid_v30 (c : Dev nD) : mid m 2 main_v30 c = Proj.xgV (entry0 m) c := by
  unfold mid; rw [dif_pos rfl]
theorem outs_last (c : Dev nD) : outs m 3 main_v31_1 c = Rec.lastV (entry1 m) c := by
  unfold outs; rw [dif_neg (by decide), dif_pos rfl]
theorem outs_out (c : Dev nD) : outs m 3 main_v31_0 c = Rec.outR c (entry1 m) := by
  unfold outs; rw [dif_neg (by decide), dif_neg (by decide), dif_pos rfl]

theorem V2_mid (c : Dev nD) : V2 m (outs m) c = V2 m (mid m) c := by
  unfold V2; rw [outs_v30, mid_v30]

theorem V2_v30 (c : Dev nD) : V2 m (outs m) c main_v30 = Proj.xgV (entry0 m) c := by
  rw [V2, Function.update_self, outs_v30]

theorem V3_out (c : Dev nD) : V3 m (outs m) c main_v31_0 = Rec.outR c (entry1 m) := by
  rw [V3, Function.update_self, outs_out]

theorem V3_last (c : Dev nD) : V3 m (outs m) c main_v31_1 = Rec.lastV (entry1 m) c := by
  rw [V3, Function.update_of_ne (StableHlo.devRef_ne_of_ne (by decide) : (Proc.devRef .tc main_v31_1 : DevRef τ sig) ≠ Proc.devRef .tc main_v31_0), Function.update_self, outs_last]

/-- The first call's record at the launch memory. -/
def seg1 : Pipeline.RegionSeg (pcfgs (F := F)) adm (pdats (entry0 m) (entry1 m)) () defs₀ 𝒱₀ L lv 0 :=
  reg0 (entry0 m) (entry1 m) (entry1 m) (fun c => by unfold entry1; rw [← V2_mid, V2_v30])
    (fun c b hb => V2_of m (mid m) c b (by simpa using hb))

/-- The second call's. -/
def seg2 : Pipeline.RegionSeg (pcfgs (F := F)) adm (pdats (entry0 m) (entry1 m)) () defs₀ 𝒱₀ L lv 1 :=
  reg1 (entry0 m) (entry1 m) (fun c b => V3 m (outs m) c b) (V3_last m) (V3_out m)
    (fun c b h1 h0 => (V3_of m (outs m) c b (by simpa using ⟨h1, h0⟩)).trans (by unfold entry1; rw [V2_mid]))

/-- The pipelines' tokens at launch. -/
def u₀ : UU := (initOf (Pipeline.cells cfgs cellOf_inj) (Pipeline.launchToks cfgs cellOf_inj), 1)

abbrev EP : Emb (URounds (GSem nD τ sig) Unit) 𝕄 := embL

/-- Between @main's items a core holds, besides the buffers, that it owes nothing. -/
abbrev Eb : Fin 3 → Dev nD → sProp 𝕄 := fun _ c => noDue c

/-- What a final state shows of the core's buffers: the arguments as launched, the results at the calls' values. -/
def Post (c : Dev nD) (s : MemSt nD τ sig (Elt F)) : Prop :=
  (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7))
    ∧ s.mem ((c.tc : Thread nD τ).loc main_v31_0) = Rec.outR c (entry1 m)
    ∧ s.mem ((c.tc : Thread nD τ).loc main_v31_1) = Rec.lastV (entry1 m) c

theorem uc_mem (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

theorem held_mid (c : Dev nD) : iprop(unscopedBufs c (entry1 m c) ∗ noDue (F := F) c)
    ⊢ (iprop(StableHlo.held (c : Thread nD τ) (Pipeline.ucRefs τ sig) (V2 m (outs m) c) ∗ Eb 1 c) : sProp 𝕄) := by
  rw [V2_mid, ← Pipeline.unscopedBufs_held (Ix := Unit) (Name := ℕ) (U := UU) (Lvl := ℕ) c (V2 m (mid m) c)]
  exact Entails.of_eq rfl

theorem mid_held (c : Dev nD) : (iprop(StableHlo.held (c : Thread nD τ) (Pipeline.ucRefs τ sig) (V2 m (outs m) c) ∗ Eb 1 c) : sProp 𝕄)
    ⊢ iprop(unscopedBufs c (entry1 m c) ∗ noDue (F := F) c) := by
  rw [V2_mid, ← Pipeline.unscopedBufs_held (Ix := Unit) (Name := ℕ) (U := UU) (Lvl := ℕ) c (V2 m (mid m) c)]
  exact Entails.of_eq rfl

theorem first_held (c : Dev nD) : (iprop(StableHlo.held (c : Thread nD τ) (Pipeline.ucRefs τ sig) (V1 m c) ∗ Eb 0 c) : sProp 𝕄)
    ⊢ iprop(unscopedBufs c (entry0 m c) ∗ noDue (F := F) c) := by
  rw [← Pipeline.unscopedBufs_held (Ix := Unit) (Name := ℕ) (U := UU) (Lvl := ℕ) c (V1 m c)]
  exact Entails.of_eq rfl

theorem held_last (c : Dev nD) : iprop(unscopedBufs c (fun b => V3 m (outs m) c b) ∗ noDue (F := F) c)
    ⊢ (iprop(StableHlo.held (c : Thread nD τ) (Pipeline.ucRefs τ sig) (V3 m (outs m) c) ∗ Eb 2 c) : sProp 𝕄) := by
  rw [← Pipeline.unscopedBufs_held (Ix := Unit) (Name := ℕ) (U := UU) (Lvl := ℕ) c (V3 m (outs m) c)]

theorem start_all (ρ : Dev nD → PrngReg) : iprop((bigSep Finset.univ fun c : Dev nD => iprop(unscopedSems0 c ∗ owes (c : Thread nD τ) (0 : CellTallies nD τ sig Unit) ∅
      ∗ Pipeline.launchCred (0 : Dev nD → CellTallies nD τ sig Unit) c ∗ prngReg c (ρ c) ∗ BI.emp)) ∗ levAts L lv)
    ⊢ (|={Set.univ}=> bigSep Finset.univ (Eb (F := F) 0) : sProp 𝕄) := by
  have h : (bigSep Finset.univ fun c : Dev nD => iprop(unscopedSems0 c ∗ owes (c : Thread nD τ) (0 : CellTallies nD τ sig Unit) ∅
      ∗ Pipeline.launchCred (0 : Dev nD → CellTallies nD τ sig Unit) c ∗ prngReg c (ρ c) ∗ BI.emp))
      ⊢ (bigSep Finset.univ (Eb (F := F) 0) : sProp 𝕄) := bigSep_mono fun c _ => show (_ : sProp 𝕄) ⊢ _ from by
    iintro ⟨-, HO, -⟩
    iexists ∅
    iexact HO
  iintro ⟨H, -⟩
  imodintro
  iapply h
  iexact H

set_option backward.isDefEq.respectTransparency.types false in
/-- The run. -/
theorem run (ρ : Dev nD → PrngReg) :
    θ_run defs (onTc (τ := τ) (main (F := F))) ⟨m, fun _ => 0, ρ⟩ (fun r => (∀ c : Dev nD, Post m c r.2) ∧ r.2.sem = fun _ => 0) := by
  refine Pipeline.θ_run_regions_kit_dev_sems (pcfgs (F := F)) adm (pdats (entry0 m) (entry1 m)) () cellOf_inj EP defs₀ 𝒱₀ L lv m ρ main
    (segs m 𝒱₀ L lv Eb () (pdats (entry0 m) (entry1 m)) (seg1 m) (seg2 m))
    (fun c Q => by
      rewrite [main_chain c, Seg.run_eq_chain,
        show (segs m 𝒱₀ L lv Eb () (pdats (entry0 m) (entry1 m)) (seg1 m) (seg2 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (0 : Dev nD → CellTallies nD τ sig Unit) (fun _ _ => rfl)
    (fun _ => BI.emp) u₀ ?hu
    (T₀ := fun c => iprop(StableHlo.held (c : Thread nD τ) (Pipeline.ucRefs τ sig) (V0 m c) ∗ Eb 0 c))
    (Tₙ := fun c => StableHlo.held (c : Thread nD τ) (Pipeline.ucRefs τ sig) (V3 m (outs m) c))
    (hch := fun c => ⟨.rfl, first_held m c, (held_mid m c).trans (mid_held m c), held_last m c⟩)
    (hinit := ?_) (QY := fun c s => Post m c s)
    (hfin := fun c s' => ?_) (hQ := fun _ h hz => ⟨h, funext fun g => hz g (.inr (regions_no_unscoped g.2))⟩)
  case hu =>
    unfold u₀
    iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (0 : Dev nD → CellTallies nD τ sig Unit) c ∗ prngReg c (ρ c) ∗ BI.emp))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (start_all ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨(h _ (uc_mem main_arg0 (by decide))).trans (V3_main_arg0 m (outs m) c), (h _ (uc_mem main_arg1 (by decide))).trans (V3_main_arg1 m (outs m) c),
        (h _ (uc_mem main_arg2 (by decide))).trans (V3_main_arg2 m (outs m) c), (h _ (uc_mem main_arg3 (by decide))).trans (V3_main_arg3 m (outs m) c),
        (h _ (uc_mem main_arg4 (by decide))).trans (V3_main_arg4 m (outs m) c), (h _ (uc_mem main_arg5 (by decide))).trans (V3_main_arg5 m (outs m) c),
        (h _ (uc_mem main_arg6 (by decide))).trans (V3_main_arg6 m (outs m) c), (h _ (uc_mem main_arg7 (by decide))).trans (V3_main_arg7 m (outs m) c)⟩,
        (h _ (uc_mem main_v31_0 (by decide))).trans (V3_out m c), (h _ (uc_mem main_v31_1 (by decide))).trans (V3_last m c)⟩
    · iexact HSI

end Cert.KernelIdeal.Run
-- ==== Proof.Frames.lean ====
/-
  The three frames.  The kernel with its own casts and the kernel over the reals are one text, so one run, stated for
  every interpretation of the floating-point operations, gives both.  The reference declares no semaphore.
-/
module

public import proofs.«01_k».proof.Proof.KernelIdealLaunch
public import proofs.«01_k».proof.Proof.Gen.Kernel
public import proofs.«01_k».proof.Proof.Gen.ReferenceIdeal.Run
public import proofs.«01_k».proof.Defs

@[expose] public section

set_option maxRecDepth 16384

namespace Cert.Frames

open Idealize.ShloMosaic Idealize.ShloMosaic.TcCoe Idealize.SL.Sem

/-- The arguments and the counters after a run of the kernel's text. -/
theorem kernel_ideal : Cert.quiescent_KernelIdeal := fun m ρ _ =>
  (θ_run Cert.KernelIdeal.defs _ _).mono (fun _ h => ⟨fun c => (h.1 c).1, h.2⟩)
    (Cert.KernelIdeal.Run.run (F := Ideal) m ρ)

/-- The two prints have one set of procedures. -/
theorem defs_eq : (Cert.Kernel.defs (F := Bits)) = Cert.KernelIdeal.defs (F := Bits) := by chain_rfl

/-- The two prints have one entry. -/
theorem main_eq : (Cert.Kernel.main (F := Bits)) = Cert.KernelIdeal.main (F := Bits) := by chain_rfl

/-- The kernel with its own casts: the run above, read at the other print's names. -/
theorem kernel : Cert.quiescent_Kernel := fun m ρ _ => by
  have h := (θ_run Cert.KernelIdeal.defs _ _).mono (fun _ h => And.intro (fun c => (h.1 c).1) h.2)
    (Cert.KernelIdeal.Run.run (F := Bits) m ρ)
  rw [defs_eq, main_eq]
  exact h

/-- The reference's arguments and counters. -/
theorem reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

end Cert.Frames
-- ==== Proof.Gru.lean ====
/-
  The mathematics of the GRU over the extended reals, with no array layout: one step, and the states that it passes
  through.  Both programs are read as this.
-/
module

public import Idealize.ShloMosaic.Lib.Pointwise

@[expose] public section

noncomputable section

namespace Cert.Gru

open Idealize.ShloMosaic

/-- A state: batch entry by lane. -/
abbrev St : Type := Fin 64 → Fin 512 → EReal

/-- Recurrent weights: gate, contracted lane, lane. -/
abbrev Rw : Type := Fin 3 → Fin 512 → Fin 512 → EReal

/-- One step's inputs to the three gates. -/
abbrev In : Type := Fin 3 → Fin 64 → Fin 512 → EReal

/-- A state against the weights of one gate. -/
def dot (h : St) (U : Rw) (g : Fin 3) : St := fun b j => ∑ k : Fin 512, h b k * U g k j

/-- A sigmoid gate. -/
def gate (a : In) (U : Rw) (h : St) (g : Fin 3) : St := fun b j => Ideal.logistic (a g b j + dot h U g b j)

/-- The candidate state. -/
def cand (a : In) (U : Rw) (h : St) : St :=
  fun b j => Ideal.tanh (a 2 b j + dot (fun b k => gate a U h 0 b k * h b k) U 2 b j)

/-- The next state. -/
def next (a : In) (U : Rw) (h : St) : St :=
  fun b j => gate a U h 1 b j * h b j + (1 - gate a U h 1 b j) * cand a U h b j

/-- The states from `h` on, at the inputs `A 0`, `A 1`, …. -/
def states (A : ℕ → In) (U : Rw) (h : St) : ℕ → St
  | 0 => h
  | n + 1 => next (A n) U (states A U h n)

/-- The inputs to the gates at one row of the sequence: the projection of that row and the bias. -/
def inputs (x : Fin 64 → Fin 1024 → EReal) (W : Fin 3 → Fin 1024 → Fin 512 → EReal) (B : Fin 3 → Fin 512 → EReal) : In :=
  fun g b j => (∑ k : Fin 1024, x b k * W g k j) + B g j

section Arrays

variable (x : (⟨3, ![512, 64, 1024]⟩ : Shape).Idx → EReal) (h : (⟨2, ![64, 1024]⟩ : Shape).Idx → EReal)
  (W : (⟨3, ![3, 1024, 512]⟩ : Shape).Idx → EReal) (U : (⟨3, ![3, 512, 512]⟩ : Shape).Idx → EReal) (B : (⟨2, ![3, 512]⟩ : Shape).Idx → EReal)

/-- The inputs at row `s` of the sequence. -/
def rowIn (s : Fin 512) : In := inputs (fun b k => x (ix3 s b k)) (fun g k j => W (ix3 g k j)) (fun g j => B (ix2 g j))

/-- The recurrent weights by coordinates. -/
def rec : Rw := fun g k j => U (ix3 g k j)

/-- The forward states: the sequence read from its first row, the state begun at the left half of the initial one. -/
def fwd : ℕ → St := states (fun n => rowIn x W B ⟨n % 512, Nat.mod_lt _ (by decide)⟩) (rec U) (fun b j => h (ix2 b ⟨j.val, by omega⟩))

/-- The backward states: from the last row, and from the right half. -/
def bwd : ℕ → St := states (fun n => rowIn x W B ⟨511 - n, by omega⟩) (rec U) (fun b j => h (ix2 b ⟨512 + j.val, by omega⟩))

end Arrays

end Cert.Gru
-- ==== Proof.KernelIdealStep.lean ====
/-
  The kernel's update of the recurrent state, element by element: it is one step of the GRU.
-/
module

public import proofs.«01_k».proof.Proof.Gru
public import proofs.«01_k».proof.Proof.KernelIdealRecForm

@[expose] public section

set_option maxRecDepth 16384

noncomputable section

namespace Cert.KernelIdeal.Rec

open Idealize.ShloMosaic Cert.KernelIdeal.Gen

/-- A state array read by coordinates. -/
def curr (h : FVec Ideal S64x512 .f32) : Gru.St := fun b j => h (ix2 b j)

/-- The recurrent weights of one direction, out of the block of the two sigmoid gates and that of the candidate. -/
def weights (wru : Vec Ideal S1x512x1024 .bf16) (wc : Vec Ideal S1x512x512 .bf16) : Gru.Rw := fun g k j =>
  if g = 0 then wru (ix3 0 k ⟨j.val, by omega⟩) else if g = 1 then wru (ix3 0 k ⟨512 + j.val, by omega⟩) else wc (ix3 0 k j)

/-- The gates' inputs out of the three rows loaded. -/
def rows (x0 x1 x2 : Vec Ideal S1x1x64x512 .bf16) : Gru.In := fun g b j =>
  if g = 0 then x0 (ix4 0 0 b j) else if g = 1 then x1 (ix4 0 0 b j) else x2 (ix4 0 0 b j)

theorem gru_apply (x0 x1 x2 : Vec Ideal S1x1x64x512 .bf16) (wru : Vec Ideal S1x512x1024 .bf16) (wc : Vec Ideal S1x512x512 .bf16)
    (h : FVec Ideal S64x512 .f32) :
    curr (gru x0 x1 x2 wru wc h) = Gru.next (rows x0 x1 x2) (weights wru wc) (curr h) := by
  funext b j
  unfold curr Gru.next Gru.cand Gru.gate Gru.dot rows weights gru
  pointwise

end Cert.KernelIdeal.Rec
-- ==== Proof.KernelIdealInputs.lean ====
/-
  What the projection call leaves, element by element: the gates' inputs, a row of the sequence against the weights of a
  gate and direction, and the bias.
-/
module

public import proofs.«01_k».proof.Proof.Gru
public import proofs.«01_k».proof.Proof.KernelIdealBody0

@[expose] public section

set_option maxRecDepth 16384

noncomputable section

namespace Cert.KernelIdeal.Proj

open Idealize.ShloMosaic Cert.KernelIdeal.Gen

theorem pay_apply (x : Vec Ideal S16x64x1024 .f32) (w : Vec Ideal S1x1x1024x512 .bf16) (v : Vec Ideal S1x512 .f32)
    (r : Fin 16) (b : Fin 64) (j : Fin 512) :
    k0_pay6 (F := Ideal) (k0_pay3 x) w v (ix4 0 r b j) = (∑ k : Fin 1024, x (ix3 r b k) * w (ix4 0 0 k j)) + v (ix2 0 j) := by
  pointwise [k0_pay6, k0_pay3]

variable (X : S16x64x1024.Idx → Elt Ideal .f32) (W : S2x3x1024x512.Idx → Elt Ideal .bf16) (B : S1x3072.Idx → Elt Ideal .f32)

theorem piece_apply (g : Fin 3) (d : ℕ) (hd : d < 2) (r : Fin 16) (b : Fin 64) (j : Fin 512) :
    piece X W B g.val d g.isLt hd (ix4 0 r b j)
      = Gru.inputs (fun b k => X (ix3 r b k)) (fun g k j => W (ix4 ⟨d, hd⟩ g k j))
          (fun g j => B (ix2 0 ⟨(2 * g.val + d) * 512 + j.val, by omega⟩)) g b j := by
  have eW : ∀ k : Fin 1024, VecWindow.window W ![d, g.val, 0, 0] S1x1x1024x512.size (inbW g.val d g.isLt hd) (ix4 0 0 k j)
      = W (ix4 ⟨d, hd⟩ g k j) := fun k => congrArg W (funext fun a => Fin.ext (by
    fin_cases a
    · show d + 1 * 0 = d; omega
    · show g.val + 1 * 0 = g.val; omega
    · show 0 + 1 * k.val = k.val; omega
    · show 0 + 1 * j.val = j.val; omega))
  have eB : VecWindow.window B ![0, (2 * g.val + d) * 512] S1x512.size (inbB (2 * g.val + d) (by omega)) (ix2 0 j)
      = B (ix2 0 ⟨(2 * g.val + d) * 512 + j.val, by omega⟩) := congrArg B (funext fun a => Fin.ext (by
    fin_cases a
    · rfl
    · show (2 * g.val + d) * 512 + 1 * j.val = (2 * g.val + d) * 512 + j.val; omega))
  unfold piece Gru.inputs
  rw [pay_apply, eB]
  exact congrArg (· + _) (Finset.sum_congr rfl fun k _ => congrArg (X (ix3 r b k) * ·) (eW k))

variable (V : (c : Dev nD) → (r : Ref sig .tc) → (Proc.devRef .tc r : DevRef τ sig).ty.Contents (Elt Ideal)) (c : Dev nD)

/-- The projection's result at a row of the sequence, left half: the forward inputs. -/
theorem xgV_left (g : Fin 3) (s : Fin 512) (b : Fin 64) (j : Fin 512) :
    xgV V c (ix4 g s b (⟨j.val, by omega⟩ : Fin 1024))
      = Gru.inputs (fun b k => XX V c (ix3 s b k)) (fun g k j => WX V c (ix4 0 g k j))
          (fun g j => BX V c (ix2 0 ⟨(2 * g.val + 0) * 512 + j.val, by omega⟩)) g b j := by
  have es : (⟨(s.val / 16) * 16 + s.val % 16, by omega⟩ : Fin 512) = s := Fin.ext (by show (s.val / 16) * 16 + s.val % 16 = s.val; omega)
  have h := piece_apply (xBlk (XX V c) ⟨s.val / 16, by omega⟩) (WX V c) (BX V c) g 0 (by decide) ⟨s.val % 16, by omega⟩ b j
  refine Eq.trans (dif_pos (show j.val < 512 from j.isLt)) (h.trans ?_)
  refine congrArg (fun x => Gru.inputs x _ _ g b j) (funext fun b => funext fun k => ?_)
  exact congrArg (fun s => XX V c (ix3 s b k)) es

/-- Right half: the backward inputs. -/
theorem xgV_right (g : Fin 3) (s : Fin 512) (b : Fin 64) (j : Fin 512) :
    xgV V c (ix4 g s b (⟨512 + j.val, by omega⟩ : Fin 1024))
      = Gru.inputs (fun b k => XX V c (ix3 s b k)) (fun g k j => WX V c (ix4 1 g k j))
          (fun g j => BX V c (ix2 0 ⟨(2 * g.val + 1) * 512 + j.val, by omega⟩)) g b j := by
  have es : (⟨(s.val / 16) * 16 + s.val % 16, by omega⟩ : Fin 512) = s := Fin.ext (by show (s.val / 16) * 16 + s.val % 16 = s.val; omega)
  have ej : (⟨512 + j.val - 512, by omega⟩ : Fin 512) = j := Fin.ext (by show 512 + j.val - 512 = j.val; omega)
  have h := piece_apply (xBlk (XX V c) ⟨s.val / 16, by omega⟩) (WX V c) (BX V c) g 1 (by decide) ⟨s.val % 16, by omega⟩ b ⟨512 + j.val - 512, by omega⟩
  refine Eq.trans (dif_neg (show ¬ 512 + j.val < 512 by omega)) (h.trans ?_)
  rw [ej]
  refine congrArg (fun x => Gru.inputs x _ _ g b j) (funext fun b => funext fun k => ?_)
  exact congrArg (fun s => XX V c (ix3 s b k)) es

end Cert.KernelIdeal.Proj
-- ==== Proof.KernelIdealEntry.lean ====
/-
  What the kernel's host operations hand the two calls, element by element: the two directions' weights stacked, and the
  biases gate by gate.
-/
module

public import Idealize.ShloMosaic.Lib.Pointwise
public import proofs.«01_k».proof.Proof.KernelIdealLaunch

@[expose] public section

set_option maxRecDepth 16384

noncomputable section

namespace Cert.KernelIdeal.Run

open Idealize.ShloMosaic Idealize.ShloMosaic.TcCoe Cert.KernelIdeal.Gen

variable (m : (l : Loc nD τ sig) → l.ty.Contents (Elt Ideal)) (c : Dev nD)

/-- An argument of the kernel. -/
abbrev arg (r : Ref sig .tc) : (Proc.devRef .tc r : DevRef τ sig).ty.Contents (Elt Ideal) := m ((c.tc : Thread nD τ).loc r)

/-- The forward input weights. -/
theorem wx_f (g : Fin 3) (k : Fin 1024) (j : Fin 512) :
    (entry0 m c main_v3 : S2x3x1024x512.Idx → EReal) (ix4 0 g k j) = (arg m c main_arg2 : S3x1024x512.Idx → EReal) (ix3 g k j) := by
  unfold entry0 V1
  after_results
  pointwise

/-- The backward input weights. -/
theorem wx_b (g : Fin 3) (k : Fin 1024) (j : Fin 512) :
    (entry0 m c main_v3 : S2x3x1024x512.Idx → EReal) (ix4 1 g k j) = (arg m c main_arg5 : S3x1024x512.Idx → EReal) (ix3 g k j) := by
  unfold entry0 V1
  after_results
  pointwise

/-- The forward biases. -/
theorem bx_f (g : Fin 3) (j : Fin 512) :
    (entry0 m c main_v7 : S1x3072.Idx → EReal) (ix2 0 ⟨(2 * g.val + 0) * 512 + j.val, by omega⟩) = (arg m c main_arg4 : S3x512.Idx → EReal) (ix2 g j) := by
  unfold entry0 V1
  after_results
  pointwise
  exact dif_pos (by omega)

/-- The backward biases. -/
theorem bx_b (g : Fin 3) (j : Fin 512) :
    (entry0 m c main_v7 : S1x3072.Idx → EReal) (ix2 0 ⟨(2 * g.val + 1) * 512 + j.val, by omega⟩) = (arg m c main_arg7 : S3x512.Idx → EReal) (ix2 g j) := by
  unfold entry0 V1
  after_results
  pointwise
  exact dif_neg (by omega)

/-- The forward recurrent weights of the reset gate. -/
theorem wr_f (k j : Fin 512) :
    (entry0 m c main_v21 : S2x512x1024.Idx → EReal) (ix3 0 k ⟨j.val, by omega⟩) = (arg m c main_arg3 : S3x512x512.Idx → EReal) (ix3 0 k j) := by
  unfold entry0 V1
  after_results
  pointwise

/-- The forward recurrent weights of the update gate. -/
theorem wu_f (k j : Fin 512) :
    (entry0 m c main_v21 : S2x512x1024.Idx → EReal) (ix3 0 k ⟨512 + j.val, by omega⟩) = (arg m c main_arg3 : S3x512x512.Idx → EReal) (ix3 1 k j) := by
  unfold entry0 V1
  after_results
  pointwise

/-- The forward recurrent weights of the candidate. -/
theorem wc_f (k j : Fin 512) :
    (entry0 m c main_v29 : S2x512x512.Idx → EReal) (ix3 0 k j) = (arg m c main_arg3 : S3x512x512.Idx → EReal) (ix3 2 k j) := by
  unfold entry0 V1
  after_results
  pointwise

/-- The backward recurrent weights of the reset gate. -/
theorem wr_b (k j : Fin 512) :
    (entry0 m c main_v21 : S2x512x1024.Idx → EReal) (ix3 1 k ⟨j.val, by omega⟩) = (arg m c main_arg6 : S3x512x512.Idx → EReal) (ix3 0 k j) := by
  unfold entry0 V1
  after_results
  pointwise

/-- The backward recurrent weights of the update gate. -/
theorem wu_b (k j : Fin 512) :
    (entry0 m c main_v21 : S2x512x1024.Idx → EReal) (ix3 1 k ⟨512 + j.val, by omega⟩) = (arg m c main_arg6 : S3x512x512.Idx → EReal) (ix3 1 k j) := by
  unfold entry0 V1
  after_results
  pointwise

/-- The backward recurrent weights of the candidate. -/
theorem wc_b (k j : Fin 512) :
    (entry0 m c main_v29 : S2x512x512.Idx → EReal) (ix3 1 k j) = (arg m c main_arg6 : S3x512x512.Idx → EReal) (ix3 2 k j) := by
  unfold entry0 V1
  after_results
  pointwise

end Cert.KernelIdeal.Run
-- ==== Proof.KernelIdealValue.lean ====
/-
  The kernel's two results over the extended reals: the states of two GRUs, the one reading the sequence from its first
  row, the other from its last.
-/
module

public import proofs.«01_k».proof.Proof.KernelIdealStep
public import proofs.«01_k».proof.Proof.KernelIdealInputs
public import proofs.«01_k».proof.Proof.KernelIdealEntry

@[expose] public section

set_option maxRecDepth 16384

noncomputable section

namespace Cert.KernelIdeal.Run

open Idealize.ShloMosaic Idealize.ShloMosaic.TcCoe Cert.KernelIdeal.Gen Cert.KernelIdeal.Rec
open Idealize.ShloMosaic.Ring (bk)

section Block

variable (X : S3x16x64x512.Idx → Elt Ideal .bf16) (W3 : S2x512x1024.Idx → Elt Ideal .bf16) (W4 : S2x512x512.Idx → Elt Ideal .bf16)

/-- The gates' inputs at row `k` of a block. -/
def blockRow (k : ℕ) : Gru.In := fun g b j => X (ix4 g (⟨k % 16, Nat.mod_lt _ (by decide)⟩ : Fin 16) b j)

/-- The recurrent weights of direction `d`, out of the two stacks. -/
def recW (d : Fin 2) : Gru.Rw := weights (wru W3 d) (wc W4 d)

theorem up_curr (d : Fin 2) (k : ℕ) (h : FVec Ideal S64x512 .f32) :
    curr (up X W3 W4 d k h) = Gru.next (blockRow X k) (recW W3 W4 d) (curr h) := by
  unfold up
  rw [gru_apply]
  refine congrArg (fun a => Gru.next a _ _) ?_
  funext g b j
  fin_cases g <;> rfl

/-- The forward states through a block, where its rows are the inputs from step `s` on. -/
theorem runF_curr (A : ℕ → Gru.In) (h₀ : Gru.St) (s : ℕ) (h : FVec Ideal S64x512 .f32) (hA : ∀ n, n < 16 → blockRow X n = A (s + n))
    (hh : curr h = Gru.states A (recW W3 W4 0) h₀ s) :
    ∀ n, n ≤ 16 → curr (runF X W3 W4 h n) = Gru.states A (recW W3 W4 0) h₀ (s + n)
  | 0, _ => hh
  | n + 1, hn => by
    refine (up_curr X W3 W4 0 n _).trans ?_
    rw [runF_curr A h₀ s h hA hh n (by omega), hA n (by omega)]
    rfl

/-- The backward states through a block, from its last row. -/
theorem runB_curr (A : ℕ → Gru.In) (h₀ : Gru.St) (s : ℕ) (h : FVec Ideal S64x512 .f32) (hA : ∀ n, n < 16 → blockRow X (15 - n) = A (s + n))
    (hh : curr h = Gru.states A (recW W3 W4 1) h₀ s) :
    ∀ n, n ≤ 16 → curr (runB X W3 W4 h n) = Gru.states A (recW W3 W4 1) h₀ (s + n)
  | 0, _ => hh
  | n + 1, hn => by
    refine (up_curr X W3 W4 1 (15 - n) _).trans ?_
    rw [runB_curr A h₀ s h hA hh n (by omega), hA n (by omega)]
    rfl

end Block

section Whole

variable (G : S3x512x64x1024.Idx → Elt Ideal .bf16) (W3 : S2x512x1024.Idx → Elt Ideal .bf16) (W4 : S2x512x512.Idx → Elt Ideal .bf16)
  (H : S64x1024.Idx → Elt Ideal .f32)

/-- The inputs of the forward GRU's step `n`: row `n`, left half. -/
def seqF (n : ℕ) : Gru.In := fun g b j => G (ix4 g (⟨n % 512, Nat.mod_lt _ (by decide)⟩ : Fin 512) b (⟨j.val, by omega⟩ : Fin 1024))

/-- The inputs of the backward GRU's step `n`: row `511 - n`, right half. -/
def seqB (n : ℕ) : Gru.In := fun g b j => G (ix4 g (⟨511 - n, by omega⟩ : Fin 512) b (⟨512 + j.val, by omega⟩ : Fin 1024))

/-- The initial state of direction `d`. -/
def init (d : Fin 2) : Gru.St := fun b j => H (ix2 b (⟨512 * d.val + j.val, by omega⟩ : Fin 1024))

theorem rowF (p : ℕ) (hp : p < 32) (n : ℕ) (hn : n < 16) : blockRow (xF G (bk 32 p)) n = seqF G (16 * p + n) := by
  funext g b j
  refine congrArg G (congrArg (fun s => ix4 g s b _) (Fin.ext ?_))
  show p % 32 * 16 + n % 16 = (16 * p + n) % 512
  omega

theorem rowB (p : ℕ) (hp : p < 32) (n : ℕ) (hn : n < 16) : blockRow (xB G (bk 32 p)) (15 - n) = seqB G (16 * p + n) := by
  funext g b j
  refine congrArg G (congrArg (fun s => ix4 g s b _) (Fin.ext ?_))
  show (31 - p % 32) * 16 + (15 - n) % 16 = 511 - (16 * p + n)
  omega

/-- The forward states, at the inputs `G`. -/
abbrev stF : ℕ → Gru.St := Gru.states (seqF G) (recW W3 W4 0) (init H 0)
/-- The backward states. -/
abbrev stB : ℕ → Gru.St := Gru.states (seqB G) (recW W3 W4 1) (init H 1)

theorem hAt_curr : ∀ p, p ≤ 32 → curr (hAt (xF G) (xB G) W3 W4 H p).1 = stF G W3 W4 H (16 * p)
    ∧ curr (hAt (xF G) (xB G) W3 W4 H p).2 = stB G W3 W4 H (16 * p)
  | 0, _ => ⟨rfl, rfl⟩
  | p + 1, hp => by
    obtain ⟨h1, h2⟩ := hAt_curr p (by omega)
    exact ⟨runF_curr _ W3 W4 (seqF G) (init H 0) (16 * p) _ (rowF G p (by omega)) h1 16 (by omega),
      runB_curr _ W3 W4 (seqB G) (init H 1) (16 * p) _ (rowB G p (by omega)) h2 16 (by omega)⟩

/-- The output's left half at row `s`: the forward state after step `s`. -/
theorem out_left (s : Fin 512) (b : Fin 64) (j : Fin 512) :
    outV (xF G) (xB G) W3 W4 H (ix3 s b (⟨j.val, by omega⟩ : Fin 1024)) = stF G W3 W4 H (s.val + 1) b j := by
  have hs := s.isLt
  have h := runF_curr (xF G (bk 32 (s.val / 16))) W3 W4 (seqF G) (init H 0) (16 * (s.val / 16)) _ (rowF G (s.val / 16) (by omega))
    (hAt_curr G W3 W4 H (s.val / 16) (by omega)).1 (s.val % 16 + 1) (by omega)
  have e : 16 * (s.val / 16) + (s.val % 16 + 1) = s.val + 1 := by omega
  have eb : (bk 32 (s.val / 16) : Fin 32).val = s.val / 16 := Nat.mod_eq_of_lt (by omega)
  rw [e] at h
  refine Eq.trans ?_ (congrFun (congrFun h b) j)
  refine Eq.trans (dif_pos (show j.val < 512 from j.isLt)) ?_
  show runF _ W3 W4 (hAt _ _ W3 W4 H (bk 32 (s.val / 16) : Fin 32).val).1 (s.val % 16 + 1) _ = _
  rw [eb]
  rfl

/-- The output's right half at row `s`: the backward state after the step that reads row `s`. -/
theorem out_right (s : Fin 512) (b : Fin 64) (j : Fin 512) :
    outV (xF G) (xB G) W3 W4 H (ix3 s b (⟨512 + j.val, by omega⟩ : Fin 1024)) = stB G W3 W4 H (512 - s.val) b j := by
  have hs := s.isLt
  have h := runB_curr (xB G (bk 32 (31 - s.val / 16))) W3 W4 (seqB G) (init H 1) (16 * (31 - s.val / 16)) _ (rowB G (31 - s.val / 16) (by omega))
    (hAt_curr G W3 W4 H (31 - s.val / 16) (by omega)).2 (16 - s.val % 16) (by omega)
  have e : 16 * (31 - s.val / 16) + (16 - s.val % 16) = 512 - s.val := by omega
  have eb : (bk 32 (31 - s.val / 16) : Fin 32).val = 31 - s.val / 16 := Nat.mod_eq_of_lt (by omega)
  have ej : (⟨512 + j.val - 512, by omega⟩ : Fin 512) = j := Fin.ext (by show 512 + j.val - 512 = j.val; omega)
  rw [e] at h
  refine Eq.trans ?_ (congrFun (congrFun h b) j)
  refine Eq.trans (dif_neg (show ¬ 512 + j.val < 512 by omega)) ?_
  show runB _ W3 W4 (hAt _ _ W3 W4 H (bk 32 (31 - s.val / 16) : Fin 32).val).2 (16 - s.val % 16) (ix2 b (⟨512 + j.val - 512, _⟩ : Fin 512)) = _
  rw [eb, ej]
  rfl

/-- The last states side by side. -/
theorem last_left (b : Fin 64) (j : Fin 512) :
    cat (hAt (xF G) (xB G) W3 W4 H 32).1 (hAt (xF G) (xB G) W3 W4 H 32).2 (ix2 b (⟨j.val, by omega⟩ : Fin 1024)) = stF G W3 W4 H 512 b j := by
  rw [← (hAt_curr G W3 W4 H 32 (by omega)).1]
  exact dif_pos (show j.val < 512 from j.isLt)

theorem last_right (b : Fin 64) (j : Fin 512) :
    cat (hAt (xF G) (xB G) W3 W4 H 32).1 (hAt (xF G) (xB G) W3 W4 H 32).2 (ix2 b (⟨512 + j.val, by omega⟩ : Fin 1024)) = stB G W3 W4 H 512 b j := by
  have ej : (⟨512 + j.val - 512, by omega⟩ : Fin 512) = j := Fin.ext (by show 512 + j.val - 512 = j.val; omega)
  rw [← (hAt_curr G W3 W4 H 32 (by omega)).2]
  refine Eq.trans (dif_neg (show ¬ 512 + j.val < 512 by omega)) ?_
  exact congrArg (fun j => (hAt (xF G) (xB G) W3 W4 H 32).2 (ix2 b j)) ej

end Whole

section Results

variable (m : (l : Loc nD τ sig) → l.ty.Contents (Elt Ideal)) (c : Dev nD)

theorem entry1_of (r : Ref sig .tc) (h : r ≠ main_v30) : entry1 m c r = entry0 m c r :=
  V2_of m (mid m) c r (by simpa using h)

theorem entry1_v30 : entry1 m c main_v30 = Proj.xgV (entry0 m) c :=
  (congrArg (fun V : Valuation τ sig (Elt Ideal) => V (Proc.devRef .tc main_v30)) (V2_mid m c)).symm.trans (V2_v30 m c)

theorem entry0_arg (r : Ref sig .tc) (h : r ∉ hostOps0_W) : entry0 m c r = arg m c r := V1_of m c r h

theorem recW_f : recW (WA (entry1 m) c) (WB (entry1 m) c) 0 = Gru.rec (arg m c main_arg3) := by
  rw [show WA (entry1 m) c = entry0 m c main_v21 from entry1_of m c _ (by decide), show WB (entry1 m) c = entry0 m c main_v29 from entry1_of m c _ (by decide)]
  funext g k j
  fin_cases g
  · exact wr_f m c k j
  · exact wu_f m c k j
  · exact wc_f m c k j

theorem recW_b : recW (WA (entry1 m) c) (WB (entry1 m) c) 1 = Gru.rec (arg m c main_arg6) := by
  rw [show WA (entry1 m) c = entry0 m c main_v21 from entry1_of m c _ (by decide), show WB (entry1 m) c = entry0 m c main_v29 from entry1_of m c _ (by decide)]
  funext g k j
  fin_cases g
  · exact wr_b m c k j
  · exact wu_b m c k j
  · exact wc_b m c k j

theorem init_eq (d : Fin 2) : init (HI (entry1 m) c) d = init (arg m c main_arg1) d := by
  rw [show HI (entry1 m) c = arg m c main_arg1 from (entry1_of m c _ (by decide)).trans (entry0_arg m c _ (by decide))]

theorem seqF_eq (n : ℕ) : seqF (entry1 m c main_v30) n = Gru.rowIn (arg m c main_arg0) (arg m c main_arg2) (arg m c main_arg4) ⟨n % 512, Nat.mod_lt _ (by decide)⟩ := by
  rw [entry1_v30]
  funext g b j
  refine (Proj.xgV_left (entry0 m) c g ⟨n % 512, Nat.mod_lt _ (by decide)⟩ b j).trans ?_
  unfold Gru.rowIn
  rw [show Proj.XX (entry0 m) c = arg m c main_arg0 from entry0_arg m c _ (by decide)]
  exact congrArg₂ (fun W B => Gru.inputs _ W B g b j) (funext fun g => funext fun k => funext fun j => wx_f m c g k j)
    (funext fun g => funext fun j => bx_f m c g j)

theorem seqB_eq (n : ℕ) : seqB (entry1 m c main_v30) n = Gru.rowIn (arg m c main_arg0) (arg m c main_arg5) (arg m c main_arg7) ⟨511 - n, by omega⟩ := by
  rw [entry1_v30]
  funext g b j
  refine (Proj.xgV_right (entry0 m) c g ⟨511 - n, by omega⟩ b j).trans ?_
  unfold Gru.rowIn
  rw [show Proj.XX (entry0 m) c = arg m c main_arg0 from entry0_arg m c _ (by decide)]
  exact congrArg₂ (fun W B => Gru.inputs _ W B g b j) (funext fun g => funext fun k => funext fun j => wx_b m c g k j)
    (funext fun g => funext fun j => bx_b m c g j)

/-- The forward GRU's states on the kernel's arguments. -/
def fwd : ℕ → Gru.St := Gru.fwd (arg m c main_arg0) (arg m c main_arg1) (arg m c main_arg2) (arg m c main_arg3) (arg m c main_arg4)
/-- The backward GRU's. -/
def bwd : ℕ → Gru.St := Gru.bwd (arg m c main_arg0) (arg m c main_arg1) (arg m c main_arg5) (arg m c main_arg6) (arg m c main_arg7)

theorem stF_eq : stF (entry1 m c main_v30) (WA (entry1 m) c) (WB (entry1 m) c) (HI (entry1 m) c) = fwd m c := by
  unfold stF fwd Gru.fwd
  rw [recW_f, init_eq, show seqF (entry1 m c main_v30) = _ from funext (seqF_eq m c)]
  refine congrArg (Gru.states _ _) (funext fun b => funext fun j => congrArg (arg m c main_arg1) (congrArg (ix2 b) (Fin.ext ?_)))
  show 512 * 0 + j.val = j.val
  omega

theorem stB_eq : stB (entry1 m c main_v30) (WA (entry1 m) c) (WB (entry1 m) c) (HI (entry1 m) c) = bwd m c := by
  unfold stB bwd Gru.bwd
  rw [recW_b, init_eq, show seqB (entry1 m c main_v30) = _ from funext (seqB_eq m c)]
  rfl

/-- The first result: the forward states and the backward states side by side, row by row. -/
theorem outR_left (s : Fin 512) (b : Fin 64) (j : Fin 512) :
    outR c (entry1 m) (ix3 s b (⟨j.val, by omega⟩ : Fin 1024)) = fwd m c (s.val + 1) b j :=
  (out_left _ _ _ _ s b j).trans (by rw [stF_eq])
theorem outR_right (s : Fin 512) (b : Fin 64) (j : Fin 512) :
    outR c (entry1 m) (ix3 s b (⟨512 + j.val, by omega⟩ : Fin 1024)) = bwd m c (512 - s.val) b j :=
  (out_right _ _ _ _ s b j).trans (by rw [stB_eq])

/-- The second result: the two last states. -/
theorem lastV_left (b : Fin 64) (j : Fin 512) : lastV (entry1 m) c (ix2 b (⟨j.val, by omega⟩ : Fin 1024)) = fwd m c 512 b j :=
  (last_left _ _ _ _ b j).trans (by rw [stF_eq])
theorem lastV_right (b : Fin 64) (j : Fin 512) : lastV (entry1 m) c (ix2 b (⟨512 + j.val, by omega⟩ : Fin 1024)) = bwd m c 512 b j :=
  (last_right _ _ _ _ b j).trans (by rw [stB_eq])

end Results

end Cert.KernelIdeal.Run
-- ==== Proof.ReferenceStep.lean ====
/-
  One trip of the reference's loop, element by element: each direction's state advances by one step of the GRU.
-/
module

public import proofs.«01_k».proof.Proof.Gru
public import proofs.«01_k».proof.Proof.Gen.ReferenceIdeal.Run
public import Idealize.ShloMosaic.Lib.DynamicIndex

@[expose] public section

set_option maxRecDepth 16384

noncomputable section

namespace Cert.ReferenceIdeal.Value

open Idealize.ShloMosaic Idealize.ShloMosaic.TcCoe Cert.ReferenceIdeal.Gen

variable (V : Valuation τ sig (Elt Ideal))

/-- A state array read by coordinates. -/
def curr (h : S64x512.Idx → EReal) : Gru.St := fun b j => h (ix2 b j)

/-- The inputs of step `n`: the row of the projections, and the bias. -/
def trip (G : S512x3x64x512.Idx → EReal) (B : S3x512.Idx → EReal) (n : Fin 512) : Gru.In :=
  fun g b j => G (ix4 n g b j) + B (ix2 g j)

/-- The loop's counter stands at `n`. -/
def At (n : ℕ) : Prop := ∀ i, (V (Proc.devRef .tc main_v9_6) : S_.Idx → BitVec 32) i = BitVec.ofNat 32 n

/-- The bias may be added last, or to the projection. -/
theorem bias_last (G : S512x3x64x512.Idx → EReal) (B : S3x512.Idx → EReal) (n : Fin 512) (g : Fin 3) (b : Fin 64) (j : Fin 512) (x : EReal) :
    G (ix4 n g b j) + x + B (ix2 g j) = G (ix4 n g b j) + B (ix2 g j) + x :=
  add_right_comm _ _ _

/-- The start of a slice along the first axis is the counter. -/
theorem start4 (n : Fin 512) (hn : At V n.val) (a : Fin 4) :
    ((![V (Proc.devRef .tc main_v9_6), constantI S_ 32 0#32, constantI S_ 32 0#32, constantI S_ 32 0#32] : Fin 4 → (⟨S_, .i32⟩ : BufTy).Contents (Elt Ideal)) a
      (Shape.Idx.first h_S_)).toInt = ((![n.val, 0, 0, 0] : Fin 4 → ℕ) a : Int) := by
  have hn' := n.isLt
  fin_cases a
  · exact (congrArg BitVec.toInt (hn _)).trans (toInt_ofNat_of_lt (by omega))
  all_goals rfl

theorem slices4 (n : Fin 512) : S512x3x64x512.Slices ![n.val, 0, 0, 0] S1x3x64x512 :=
  ⟨rfl, fun a => by have := n.isLt; fin_cases a <;> simp [S512x3x64x512, S1x3x64x512] <;> omega⟩

/-- The forward row sliced out by the trip. -/
theorem slice_f (n : Fin 512) (hn : At V n.val) (g : Fin 3) (b : Fin 64) (j : Fin 512) :
    (res_main_while0b_v13 V : S3x64x512.Idx → EReal) (ix3 g b j) = (V (Proc.devRef .tc main_v9_0) : S512x3x64x512.Idx → EReal) (ix4 n g b j) := by
  unfold res_main_while0b_v13
  rw [Host.dynamicSlice_eq_extractStridedSlice _ _ _ ![n.val, 0, 0, 0] _ (slices4 n) (start4 V n hn)]
  pointwise

/-- The forward state after the trip. -/
theorem next_f (n : Fin 512) (hn : At V n.val) :
    curr (res_main_while0b_v66 V) = Gru.next (trip (V (Proc.devRef .tc main_v9_0)) (V (Proc.devRef .tc main_v9_3)) n)
      (Gru.rec (V (Proc.devRef .tc main_v9_2))) (curr (V (Proc.devRef .tc main_v9_7))) := by
  funext b j
  unfold curr Gru.next Gru.cand Gru.gate Gru.dot trip Gru.rec
  pointwise [res_main_while0b_v66, res_main_while0b_v48]
  have key := bias_last (V (Proc.devRef .tc main_v9_0)) (V (Proc.devRef .tc main_v9_3)) n
  simp only [slice_f V n hn, Ideal.logistic, key]

/-- The backward row sliced out by the trip. -/
theorem slice_b (n : Fin 512) (hn : At V n.val) (g : Fin 3) (b : Fin 64) (j : Fin 512) :
    (res_main_while0b_v14 V : S3x64x512.Idx → EReal) (ix3 g b j) = (V (Proc.devRef .tc main_v9_1) : S512x3x64x512.Idx → EReal) (ix4 n g b j) := by
  unfold res_main_while0b_v14
  rw [Host.dynamicSlice_eq_extractStridedSlice _ _ _ ![n.val, 0, 0, 0] _ (slices4 n) (start4 V n hn)]
  pointwise

/-- The backward state after the trip. -/
theorem next_b (n : Fin 512) (hn : At V n.val) :
    curr (res_main_while0b_v118 V) = Gru.next (trip (V (Proc.devRef .tc main_v9_1)) (V (Proc.devRef .tc main_v9_5)) n)
      (Gru.rec (V (Proc.devRef .tc main_v9_4))) (curr (V (Proc.devRef .tc main_v9_8))) := by
  funext b j
  unfold curr Gru.next Gru.cand Gru.gate Gru.dot trip Gru.rec
  pointwise [res_main_while0b_v118, res_main_while0b_v100]
  have key := bias_last (V (Proc.devRef .tc main_v9_1)) (V (Proc.devRef .tc main_v9_5)) n
  simp only [slice_b V n hn, Ideal.logistic, key]

end Cert.ReferenceIdeal.Value
-- ==== Proof.ReferenceLoop.lean ====
/-
  The reference's loop, trip after trip: the two states, and the rows written so far.
-/
module

public import proofs.«01_k».proof.Proof.ReferenceStep
public import Idealize.ShloMosaic.Lib.Pipeline.Value

@[expose] public section

set_option maxRecDepth 16384

noncomputable section

namespace Cert.ReferenceIdeal.Value

open Idealize.ShloMosaic Idealize.ShloMosaic.TcCoe Cert.ReferenceIdeal.Gen

section Write

variable (V : Valuation τ sig (Elt Ideal)) (n : Fin 512) (hn : At V n.val)
include hn

/-- The start of the row written is the counter. -/
theorem start3 (a : Fin 3) :
    ((![V (Proc.devRef .tc main_v9_6), constantI S_ 32 0#32, constantI S_ 32 0#32] : Fin 3 → (⟨S_, .i32⟩ : BufTy).Contents (Elt Ideal)) a
      (Shape.Idx.first h_S_)).toInt = ((![n.val, 0, 0] : Fin 3 → ℕ) a : Int) := by
  have hn' := n.isLt
  fin_cases a
  · exact (congrArg BitVec.toInt (hn _)).trans (toInt_ofNat_of_lt (by omega))
  all_goals rfl

omit hn in
theorem slices3 : S512x64x512.Slices ![n.val, 0, 0] S1x64x512 :=
  ⟨rfl, fun a => by have := n.isLt; fin_cases a <;> simp [S512x64x512, S1x64x512] <;> omega⟩

/-- An array with row `n` overwritten, as the trip writes it. -/
theorem write_row (O : S512x64x512.Idx → EReal) (h : S64x512.Idx → EReal) (s : Fin 512) (b : Fin 64) (j : Fin 512) :
    (Host.dynamicUpdateSlice O (broadcastInDim S1x64x512 ![1, 2] bcast_S64x512_S1x64x512_1_2 h)
      (fun k => (((![V (Proc.devRef .tc main_v9_6), constantI S_ 32 0#32, constantI S_ 32 0#32] : Fin 3 → (⟨S_, .i32⟩ : BufTy).Contents (Elt Ideal))) k (Shape.Idx.first h_S_)).toInt)
      updateFits_S512x64x512_S1x64x512) (ix3 s b j) = if s.val = n.val then h (ix2 b j) else O (ix3 s b j) := by
  have hn' := n.isLt
  rw [Host.dynamicUpdateSlice_eq_updateSlice _ _ _ _ ![n.val, 0, 0] (fun a => by
    rw [start3 V n hn a]; fin_cases a <;> simp [S512x64x512, S1x64x512] <;> omega) (slices3 n)]
  pointwise
  by_cases e : s.val = n.val
  · rw [if_pos e]; exact dif_pos ⟨by omega, by omega⟩
  · rw [if_neg e]; exact dif_neg (by omega)

end Write

variable (V : Valuation τ sig (Elt Ideal))

/-- The inputs of the two GRUs, trip by trip. -/
def insF (k : ℕ) : Gru.In := trip (V (Proc.devRef .tc main_v9_0)) (V (Proc.devRef .tc main_v9_3)) ⟨k % 512, Nat.mod_lt _ (by decide)⟩
def insB (k : ℕ) : Gru.In := trip (V (Proc.devRef .tc main_v9_1)) (V (Proc.devRef .tc main_v9_5)) ⟨k % 512, Nat.mod_lt _ (by decide)⟩

/-- The states of the two GRUs from the contents at the loop's entry. -/
def stF : ℕ → Gru.St := Gru.states (insF V) (Gru.rec (V (Proc.devRef .tc main_v9_2))) (curr (V (Proc.devRef .tc main_v9_7)))
def stB : ℕ → Gru.St := Gru.states (insB V) (Gru.rec (V (Proc.devRef .tc main_v9_4))) (curr (V (Proc.devRef .tc main_v9_8)))

/-- What holds after `n` trips. -/
structure After (n : ℕ) (W : Valuation τ sig (Elt Ideal)) : Prop where
  cnt : At W n
  c0 : W (Proc.devRef .tc main_v9_0) = V (Proc.devRef .tc main_v9_0)
  c1 : W (Proc.devRef .tc main_v9_1) = V (Proc.devRef .tc main_v9_1)
  c2 : W (Proc.devRef .tc main_v9_2) = V (Proc.devRef .tc main_v9_2)
  c3 : W (Proc.devRef .tc main_v9_3) = V (Proc.devRef .tc main_v9_3)
  c4 : W (Proc.devRef .tc main_v9_4) = V (Proc.devRef .tc main_v9_4)
  c5 : W (Proc.devRef .tc main_v9_5) = V (Proc.devRef .tc main_v9_5)
  hF : curr (W (Proc.devRef .tc main_v9_7)) = stF V n
  hB : curr (W (Proc.devRef .tc main_v9_8)) = stB V n
  oF : ∀ (s : Fin 512) b j, s.val < n → (W (Proc.devRef .tc main_v9_9) : S512x64x512.Idx → EReal) (ix3 s b j) = stF V (s.val + 1) b j
  oB : ∀ (s : Fin 512) b j, s.val < n → (W (Proc.devRef .tc main_v9_10) : S512x64x512.Idx → EReal) (ix3 s b j) = stB V (s.val + 1) b j

/-- A trip. -/
theorem After.succ {n : ℕ} (hn : n < 512) {W : Valuation τ sig (Elt Ideal)} (h : After V n W) : After V (n + 1) (STEP W) := by
  have hc : At W (⟨n, hn⟩ : Fin 512).val := h.cnt
  have en : (⟨n % 512, Nat.mod_lt _ (by decide)⟩ : Fin 512) = ⟨n, hn⟩ := Fin.ext (Nat.mod_eq_of_lt hn)
  have eF : curr (res_main_while0b_v66 W) = stF V (n + 1) := by
    rw [next_f W ⟨n, hn⟩ hc, h.c0, h.c3, h.c2, h.hF, ← en]; rfl
  have eB : curr (res_main_while0b_v118 W) = stB V (n + 1) := by
    rw [next_b W ⟨n, hn⟩ hc, h.c1, h.c5, h.c4, h.hB, ← en]; rfl
  refine ⟨fun i => ?_, (STEP_main_v9_0 W).trans h.c0, (STEP_main_v9_1 W).trans h.c1, (STEP_main_v9_2 W).trans h.c2, (STEP_main_v9_3 W).trans h.c3,
    (STEP_main_v9_4 W).trans h.c4, (STEP_main_v9_5 W).trans h.c5, ?_, ?_, fun s b j hs => ?_, fun s b j hs => ?_⟩
  · rw [STEP_main_v9_6]
    refine Eq.trans (congrArg (fun w : BitVec 32 => w + 1#32) (h.cnt i)) ?_
    exact (BitVec.ofNat_add n 1).symm
  · rw [STEP_main_v9_7]; exact eF
  · rw [STEP_main_v9_8]; exact eB
  · rw [STEP_main_v9_9]
    refine (write_row W ⟨n, hn⟩ hc _ _ s b j).trans ?_
    split
    · next e => exact (congrFun (congrFun eF b) j).trans (by rw [show s.val + 1 = n + 1 from congrArg (· + 1) e])
    · next e => exact h.oF s b j (by have : s.val ≠ n := e; omega)
  · rw [STEP_main_v9_10]
    refine (write_row W ⟨n, hn⟩ hc _ _ s b j).trans ?_
    split
    · next e => exact (congrFun (congrFun eB b) j).trans (by rw [show s.val + 1 = n + 1 from congrArg (· + 1) e])
    · next e => exact h.oB s b j (by have : s.val ≠ n := e; omega)

/-- After `n` trips from contents whose counter is zero. -/
theorem after_iterate (h0 : At V 0) : ∀ n, n ≤ 512 → After V n (STEP^[n] V)
  | 0, _ => ⟨h0, rfl, rfl, rfl, rfl, rfl, rfl, rfl, rfl, fun _ _ _ h => absurd h (Nat.not_lt_zero _), fun _ _ _ h => absurd h (Nat.not_lt_zero _)⟩
  | n + 1, hn => by
    rw [Function.iterate_succ_apply']
    exact (after_iterate h0 n (by omega)).succ V (by omega)

end Cert.ReferenceIdeal.Value
-- ==== Proof.ReferenceValue.lean ====
/-
  The reference's two results over the extended reals: the states of two GRUs, the one reading the sequence from its first
  row, the other from its last.
-/
module

public import proofs.«01_k».proof.Proof.ReferenceLoop

@[expose] public section

set_option maxRecDepth 16384

noncomputable section

namespace Cert.ReferenceIdeal.Value

open Idealize.ShloMosaic Idealize.ShloMosaic.TcCoe Cert.ReferenceIdeal.Gen
open Idealize.ShloMosaic.StableHlo

variable (m : (l : Loc nD τ sig) → l.ty.Contents (Elt Ideal)) (c : Dev nD)

/-- An argument of the reference. -/
abbrev arg (r : Ref sig .tc) : (Proc.devRef .tc r : DevRef τ sig).ty.Contents (Elt Ideal) := m ((c.tc : Thread nD τ).loc r)

/-- The contents at the loop's entry. -/
abbrev ent : Valuation τ sig (Elt Ideal) := entryContents preI m c

/-- The arguments as arrays. -/
abbrev aX : S512x64x1024.Idx → EReal := arg m c main_arg0
abbrev aH : S64x1024.Idx → EReal := arg m c main_arg1
abbrev aWf : S3x1024x512.Idx → EReal := arg m c main_arg2
abbrev aUf : S3x512x512.Idx → EReal := arg m c main_arg3
abbrev aBf : S3x512.Idx → EReal := arg m c main_arg4
abbrev aWb : S3x1024x512.Idx → EReal := arg m c main_arg5
abbrev aUb : S3x512x512.Idx → EReal := arg m c main_arg6
abbrev aBb : S3x512.Idx → EReal := arg m c main_arg7

/-- The counter at the loop's entry. -/
theorem ent_at : At (ent m c) 0 := fun i => congrFun (ctr_entry m c) i

/-- A projection may have its factors in either order. -/
theorem proj_comm (x : Fin 1024 → EReal) (w : Fin 1024 → EReal) (y : EReal) : (∑ k, w k * x k) + y = (∑ k, x k * w k) + y :=
  congrArg (· + y) (Finset.sum_congr rfl fun _ _ => mul_comm _ _)

/-- The forward projections at the loop's entry. -/
theorem ent_v0 (n : Fin 512) (g : Fin 3) (b : Fin 64) (j : Fin 512) :
    (ent m c (Proc.devRef .tc main_v9_0) : S512x3x64x512.Idx → EReal) (ix4 n g b j)
      = ∑ k : Fin 1024, aWf m c (ix3 g k j) * aX m c (ix3 n b k) := by
  simp only [ent, entryContents, afterL_cons, afterL_nil]
  after_results
  simp only [id]
  pointwise

/-- The backward projections at the loop's entry: the sequence reversed. -/
theorem ent_v1 (n : Fin 512) (g : Fin 3) (b : Fin 64) (j : Fin 512) :
    (ent m c (Proc.devRef .tc main_v9_1) : S512x3x64x512.Idx → EReal) (ix4 n g b j)
      = ∑ k : Fin 1024, aWb m c (ix3 g k j) * aX m c (ix3 n.rev b k) := by
  simp only [ent, entryContents, afterL_cons, afterL_nil]
  after_results
  simp only [id]
  pointwise
  rfl

theorem ent_v2 : ent m c (Proc.devRef .tc main_v9_2) = aUf m c := by
  simp only [ent, entryContents, afterL_cons, afterL_nil]
  after_results
  rfl
theorem ent_v3 : ent m c (Proc.devRef .tc main_v9_3) = aBf m c := by
  simp only [ent, entryContents, afterL_cons, afterL_nil]
  after_results
  rfl
theorem ent_v4 : ent m c (Proc.devRef .tc main_v9_4) = aUb m c := by
  simp only [ent, entryContents, afterL_cons, afterL_nil]
  after_results
  rfl
theorem ent_v5 : ent m c (Proc.devRef .tc main_v9_5) = aBb m c := by
  simp only [ent, entryContents, afterL_cons, afterL_nil]
  after_results
  rfl

/-- The forward state begins at the left half of the initial one. -/
theorem ent_v7 (b : Fin 64) (j : Fin 512) :
    (ent m c (Proc.devRef .tc main_v9_7) : S64x512.Idx → EReal) (ix2 b j) = aH m c (ix2 b (⟨j.val, by omega⟩ : Fin 1024)) := by
  simp only [ent, entryContents, afterL_cons, afterL_nil]
  after_results
  simp only [id]
  pointwise

/-- The backward state begins at the right half. -/
theorem ent_v8 (b : Fin 64) (j : Fin 512) :
    (ent m c (Proc.devRef .tc main_v9_8) : S64x512.Idx → EReal) (ix2 b j) = aH m c (ix2 b (⟨512 + j.val, by omega⟩ : Fin 1024)) := by
  simp only [ent, entryContents, afterL_cons, afterL_nil]
  after_results
  simp only [id]
  pointwise

/-- The inputs of a trip from the projections. -/
theorem trip_eq (G : S512x3x64x512.Idx → EReal) (B : S3x512.Idx → EReal) (X : S512x64x1024.Idx → EReal) (W : S3x1024x512.Idx → EReal)
    (n s : Fin 512) (h : ∀ g b j, G (ix4 n g b j) = ∑ k : Fin 1024, W (ix3 g k j) * X (ix3 s b k)) :
    trip G B n = Gru.rowIn X W B s := by
  funext g b j
  unfold trip
  rw [h g b j]
  exact proj_comm (fun k => X (ix3 s b k)) (fun k => W (ix3 g k j)) _

theorem insF_eq (n : ℕ) : insF (ent m c) n = Gru.rowIn (aX m c) (aWf m c) (aBf m c) ⟨n % 512, Nat.mod_lt _ (by decide)⟩ := by
  unfold insF
  rw [ent_v3]
  exact trip_eq _ _ _ _ _ _ (ent_v0 m c _)

theorem insB_eq (n : ℕ) (hn : n < 512) : insB (ent m c) n = Gru.rowIn (aX m c) (aWb m c) (aBb m c) ⟨511 - n, by omega⟩ := by
  unfold insB
  rw [ent_v5]
  refine trip_eq _ _ _ _ _ _ fun g b j => (ent_v1 m c _ g b j).trans ?_
  rw [show (⟨n % 512, Nat.mod_lt _ (by decide)⟩ : Fin 512).rev = ⟨511 - n, by omega⟩ from Fin.ext (by
    rw [Fin.val_rev]; show 512 - (n % 512 + 1) = 511 - n; omega)]

/-- States agree as far as their inputs do. -/
theorem states_congr (A A' : ℕ → Gru.In) (U : Gru.Rw) (h : Gru.St) (N : ℕ) (hA : ∀ n < N, A n = A' n) :
    ∀ n ≤ N, Gru.states A U h n = Gru.states A' U h n
  | 0, _ => rfl
  | n + 1, hn => by
    show Gru.next (A n) U (Gru.states A U h n) = Gru.next (A' n) U (Gru.states A' U h n)
    rw [hA n hn, states_congr A A' U h N hA n (by omega)]

/-- The forward GRU's states on the reference's arguments. -/
def fwd : ℕ → Gru.St := Gru.fwd (aX m c) (aH m c) (aWf m c) (aUf m c) (aBf m c)
/-- The backward GRU's. -/
def bwd : ℕ → Gru.St := Gru.bwd (aX m c) (aH m c) (aWb m c) (aUb m c) (aBb m c)

theorem stF_eq : stF (ent m c) = fwd m c := by
  unfold stF fwd Gru.fwd
  rw [ent_v2, show insF (ent m c) = _ from funext (insF_eq m c),
    show curr (ent m c (Proc.devRef .tc main_v9_7)) = _ from funext fun b => funext fun j => ent_v7 m c b j]

theorem stB_eq (n : ℕ) (hn : n ≤ 512) : stB (ent m c) n = bwd m c n := by
  unfold stB bwd Gru.bwd
  rw [ent_v4, show curr (ent m c (Proc.devRef .tc main_v9_8)) = _ from funext fun b => funext fun j => ent_v8 m c b j]
  exact states_congr _ _ _ _ 512 (insB_eq m c) n hn

/-- The contents at the loop's end. -/
theorem last : After (ent m c) 512 (STEP^[512] (ent m c)) := after_iterate (ent m c) (ent_at m c) 512 le_rfl

/-- The first result: the forward states and the backward states side by side, row by row. -/
theorem out_left (s : Fin 512) (b : Fin 64) (j : Fin 512) :
    (out_main_v11 (STEP^[512] (ent m c)) : S512x64x1024.Idx → EReal) (ix3 s b (⟨j.val, by omega⟩ : Fin 1024)) = fwd m c (s.val + 1) b j := by
  have h := (last m c).oF s b j s.isLt
  rw [stF_eq] at h
  rw [← h]
  generalize STEP^[512] (ent m c) = W
  unfold out_main_v11
  pointwise

theorem out_right (s : Fin 512) (b : Fin 64) (j : Fin 512) :
    (out_main_v11 (STEP^[512] (ent m c)) : S512x64x1024.Idx → EReal) (ix3 s b (⟨512 + j.val, by omega⟩ : Fin 1024)) = bwd m c (512 - s.val) b j := by
  have h := (last m c).oB s.rev b j s.rev.isLt
  have e : s.rev.val + 1 = 512 - s.val := by rw [Fin.val_rev]; omega
  rw [e, stB_eq m c _ (by omega)] at h
  rw [← h]
  generalize STEP^[512] (ent m c) = W
  unfold out_main_v11
  pointwise
  rfl

/-- The second result: the two last states. -/
theorem last_left (b : Fin 64) (j : Fin 512) :
    (out_main_v12 (STEP^[512] (ent m c)) : S64x1024.Idx → EReal) (ix2 b (⟨j.val, by omega⟩ : Fin 1024)) = fwd m c 512 b j := by
  have h := congrFun (congrFun (last m c).hF b) j
  rw [stF_eq] at h
  rw [← h]
  generalize STEP^[512] (ent m c) = W
  unfold out_main_v12 curr
  pointwise

theorem last_right (b : Fin 64) (j : Fin 512) :
    (out_main_v12 (STEP^[512] (ent m c)) : S64x1024.Idx → EReal) (ix2 b (⟨512 + j.val, by omega⟩ : Fin 1024)) = bwd m c 512 b j := by
  have h := congrFun (congrFun (last m c).hB b) j
  rw [stB_eq m c _ le_rfl] at h
  rw [← h]
  generalize STEP^[512] (ent m c) = W
  unfold out_main_v12 curr
  pointwise

end Cert.ReferenceIdeal.Value
-- ==== Proof.Value.lean ====
/-
  The kernel and the reference agree over the extended reals: each result holds, in its left half, the states of the
  forward GRU and, in its right half, those of the backward GRU.
-/
module

public import proofs.«01_k».proof.Proof.KernelIdealValue
public import proofs.«01_k».proof.Proof.KernelIdealLaunch
public import proofs.«01_k».proof.Proof.ReferenceValue
public import proofs.«01_k».proof.Defs

@[expose] public section

set_option maxRecDepth 16384

noncomputable section

namespace Cert.Values

open Idealize.ShloMosaic Idealize.ShloMosaic.TcCoe Idealize.SL.Sem

/-- Two arrays of rows of 1024 lanes agree if their left and right halves do. -/
theorem rows_ext (f g : (⟨3, ![512, 64, 1024]⟩ : Shape).Idx → EReal)
    (hl : ∀ (s : Fin 512) (b : Fin 64) (j : Fin 512), f (ix3 s b (⟨j.val, by omega⟩ : Fin 1024)) = g (ix3 s b (⟨j.val, by omega⟩ : Fin 1024)))
    (hr : ∀ (s : Fin 512) (b : Fin 64) (j : Fin 512),
      f (ix3 s b (⟨512 + j.val, by omega⟩ : Fin 1024)) = g (ix3 s b (⟨512 + j.val, by omega⟩ : Fin 1024))) : f = g := by
  funext i
  obtain ⟨s, b, l, rfl⟩ : ∃ s b l, i = ix3 s b l := ⟨i 0, i 1, i 2, by funext a; fin_cases a <;> rfl⟩
  by_cases h : l.val < 512
  · exact hl s b ⟨l.val, h⟩
  · have e : (⟨512 + (l.val - 512), by omega⟩ : Fin 1024) = l := Fin.ext (by show 512 + (l.val - 512) = l.val; omega)
    have := hr s b ⟨l.val - 512, by omega⟩
    rw [show (⟨512 + (⟨l.val - 512, by omega⟩ : Fin 512).val, by show 512 + (l.val - 512) < 1024; omega⟩ : Fin 1024) = l from e] at this
    exact this

/-- The same of one array of 64 rows. -/
theorem row_ext (f g : (⟨2, ![64, 1024]⟩ : Shape).Idx → EReal)
    (hl : ∀ (b : Fin 64) (j : Fin 512), f (ix2 b (⟨j.val, by omega⟩ : Fin 1024)) = g (ix2 b (⟨j.val, by omega⟩ : Fin 1024)))
    (hr : ∀ (b : Fin 64) (j : Fin 512),
      f (ix2 b (⟨512 + j.val, by omega⟩ : Fin 1024)) = g (ix2 b (⟨512 + j.val, by omega⟩ : Fin 1024))) : f = g := by
  funext i
  obtain ⟨b, l, rfl⟩ : ∃ b l, i = ix2 b l := ⟨i 0, i 1, by funext a; fin_cases a <;> rfl⟩
  by_cases h : l.val < 512
  · exact hl b ⟨l.val, h⟩
  · have e : (⟨512 + (l.val - 512), by omega⟩ : Fin 1024) = l := Fin.ext (by show 512 + (l.val - 512) = l.val; omega)
    have := hr b ⟨l.val - 512, by omega⟩
    rw [show (⟨512 + (⟨l.val - 512, by omega⟩ : Fin 512).val, by show 512 + (l.val - 512) < 1024; omega⟩ : Fin 1024) = l from e] at this
    exact this

variable (m : (l : Loc Cert.KernelIdeal.nD Cert.KernelIdeal.τ Cert.KernelIdeal.sig) → Buf (Elt Ideal) l)
  (m' : (l : Loc Cert.ReferenceIdeal.nD Cert.ReferenceIdeal.τ Cert.ReferenceIdeal.sig) → Buf (Elt Ideal) l)
  (c : Dev Cert.KernelIdeal.nD)

/-- The two memories hold the same arguments. -/
structure Same : Prop where
  a0 : Cert.ReferenceIdeal.Value.arg m' c Cert.ReferenceIdeal.main_arg0 = Cert.KernelIdeal.Run.arg m c Cert.KernelIdeal.main_arg0
  a1 : Cert.ReferenceIdeal.Value.arg m' c Cert.ReferenceIdeal.main_arg1 = Cert.KernelIdeal.Run.arg m c Cert.KernelIdeal.main_arg1
  a2 : Cert.ReferenceIdeal.Value.arg m' c Cert.ReferenceIdeal.main_arg2 = Cert.KernelIdeal.Run.arg m c Cert.KernelIdeal.main_arg2
  a3 : Cert.ReferenceIdeal.Value.arg m' c Cert.ReferenceIdeal.main_arg3 = Cert.KernelIdeal.Run.arg m c Cert.KernelIdeal.main_arg3
  a4 : Cert.ReferenceIdeal.Value.arg m' c Cert.ReferenceIdeal.main_arg4 = Cert.KernelIdeal.Run.arg m c Cert.KernelIdeal.main_arg4
  a5 : Cert.ReferenceIdeal.Value.arg m' c Cert.ReferenceIdeal.main_arg5 = Cert.KernelIdeal.Run.arg m c Cert.KernelIdeal.main_arg5
  a6 : Cert.ReferenceIdeal.Value.arg m' c Cert.ReferenceIdeal.main_arg6 = Cert.KernelIdeal.Run.arg m c Cert.KernelIdeal.main_arg6
  a7 : Cert.ReferenceIdeal.Value.arg m' c Cert.ReferenceIdeal.main_arg7 = Cert.KernelIdeal.Run.arg m c Cert.KernelIdeal.main_arg7

variable {m m' c} (h : Same m m' c)
include h

theorem fwd_eq : Cert.ReferenceIdeal.Value.fwd m' c = Cert.KernelIdeal.Run.fwd m c := by
  unfold Cert.ReferenceIdeal.Value.fwd Cert.KernelIdeal.Run.fwd
  rw [← h.a0, ← h.a1, ← h.a2, ← h.a3, ← h.a4]
theorem bwd_eq : Cert.ReferenceIdeal.Value.bwd m' c = Cert.KernelIdeal.Run.bwd m c := by
  unfold Cert.ReferenceIdeal.Value.bwd Cert.KernelIdeal.Run.bwd
  rw [← h.a0, ← h.a1, ← h.a5, ← h.a6, ← h.a7]

/-- The sequence of states. -/
theorem first : Cert.ReferenceIdeal.Value.out_main_v11 (Cert.ReferenceIdeal.Value.STEP^[512] (Cert.ReferenceIdeal.Value.ent m' c))
    = Cert.KernelIdeal.Rec.outR c (Cert.KernelIdeal.Run.entry1 m) :=
  rows_ext _ _
    (fun s b j => (Cert.ReferenceIdeal.Value.out_left m' c s b j).trans
      ((congrFun (congrFun (congrFun (fwd_eq h) _) b) j).trans (Cert.KernelIdeal.Run.outR_left m c s b j).symm))
    (fun s b j => (Cert.ReferenceIdeal.Value.out_right m' c s b j).trans
      ((congrFun (congrFun (congrFun (bwd_eq h) _) b) j).trans (Cert.KernelIdeal.Run.outR_right m c s b j).symm))

/-- The last states. -/
theorem second : Cert.ReferenceIdeal.Value.out_main_v12 (Cert.ReferenceIdeal.Value.STEP^[512] (Cert.ReferenceIdeal.Value.ent m' c))
    = Cert.KernelIdeal.Rec.lastV (Cert.KernelIdeal.Run.entry1 m) c :=
  row_ext _ _
    (fun b j => (Cert.ReferenceIdeal.Value.last_left m' c b j).trans
      ((congrFun (congrFun (congrFun (fwd_eq h) _) b) j).trans (Cert.KernelIdeal.Run.lastV_left m c b j).symm))
    (fun b j => (Cert.ReferenceIdeal.Value.last_right m' c b j).trans
      ((congrFun (congrFun (congrFun (bwd_eq h) _) b) j).trans (Cert.KernelIdeal.Run.lastV_right m c b j).symm))

omit h

/-- From equal arguments the kernel and the reference end with equal results. -/
theorem algebraic : Cert.algebraic_KernelIdeal_ReferenceIdeal := fun m ρ m' ρ' _ hm =>
  ⟨fun c => Cert.KernelIdeal.Rec.outR c (Cert.KernelIdeal.Run.entry1 m), fun c => Cert.KernelIdeal.Rec.lastV (Cert.KernelIdeal.Run.entry1 m) c,
    (θ_run Cert.KernelIdeal.defs _ _).mono (fun _ h c => ⟨(h.1 c).2.1, (h.1 c).2.2, (h.1 c).1⟩)
      (Cert.KernelIdeal.Run.run (F := Ideal) m ρ),
    (θ_run Cert.ReferenceIdeal.defs _ _).mono (fun _ h c => by
      obtain ⟨h0, h1, h2, h3, h4, h5, h6, h7⟩ := hm c
      have hs : Same m m' c := ⟨h0, h1, h2, h3, h4, h5, h6, h7⟩
      exact ⟨(h c).1.trans (first hs), (h c).2.1.trans (second hs), (h c).2.2⟩)
      (Cert.ReferenceIdeal.Value.run (F := Ideal) m' ρ')⟩

end Cert.Values
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Frames.kernel, Cert.Frames.kernel_ideal, Cert.Frames.reference, trivial, Cert.Values.algebraic⟩

end Cert.Proof

end
